-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v345) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000000x100 : Shape := ⟨2, ![1000000, 100]⟩
abbrev S1000000 : Shape := ⟨1, ![1000000]⟩
abbrev S2x15 : Shape := ⟨2, ![2, 15]⟩
abbrev S250x4000 : Shape := ⟨2, ![250, 4000]⟩
abbrev S2x1x15 : Shape := ⟨3, ![2, 1, 15]⟩
abbrev S4000x100 : Shape := ⟨2, ![4000, 100]⟩
abbrev S8x4000 : Shape := ⟨2, ![8, 4000]⟩
abbrev S1x1x15 : Shape := ⟨3, ![1, 1, 15]⟩
abbrev S1x4000 : Shape := ⟨2, ![1, 4000]⟩
abbrev S4000x1 : Shape := ⟨2, ![4000, 1]⟩
abbrev S4000 : Shape := ⟨1, ![4000]⟩
abbrev S1x100 : Shape := ⟨2, ![1, 100]⟩
abbrev S1x15 : Shape := ⟨2, ![1, 15]⟩
abbrev S4000x15 : Shape := ⟨2, ![4000, 15]⟩
abbrev S15 : Shape := ⟨1, ![15]⟩
abbrev S1x1 : Shape := ⟨2, ![1, 1]⟩
abbrev S1 : Shape := ⟨1, ![1]⟩
abbrev S1x1x1 : Shape := ⟨3, ![1, 1, 1]⟩

abbrev nBuf : Space → Nat
  | .hbm => 10
  | .vmem => 15
  | .smem => 0
  | _ => 0

abbrev bufTy : (tb : Table) → Fin (tcTables nBuf tb) → BufTy
  | .hbm, ⟨0, _⟩ => ⟨S1000000x100, .f32⟩
  | .hbm, ⟨1, _⟩ => ⟨S1000000, .i32⟩
  | .hbm, ⟨2, _⟩ => ⟨S2x15, .f32⟩
  | .hbm, ⟨3, _⟩ => ⟨S1000000, .f32⟩
  | .hbm, ⟨4, _⟩ => ⟨S250x4000, .f32⟩
  | .hbm, ⟨5, _⟩ => ⟨S2x1x15, .f32⟩
  | .hbm, ⟨6, _⟩ => ⟨S2x1x15, .f32⟩
  | .hbm, ⟨7, _⟩ => ⟨S2x1x15, .f32⟩
  | .hbm, ⟨8, _⟩ => ⟨S1x1, .f32⟩
  | .hbm, ⟨9, _⟩ => ⟨S1, .f32⟩
  | .local _ .vmem, ⟨0, _⟩ => ⟨S4000x100, .f32⟩
  | .local _ .vmem, ⟨1, _⟩ => ⟨S4000x100, .f32⟩
  | .local _ .vmem, ⟨2, _⟩ => ⟨S8x4000, .f32⟩
  | .local _ .vmem, ⟨3, _⟩ => ⟨S8x4000, .f32⟩
  | .local _ .vmem, ⟨4, _⟩ => ⟨S2x15, .f32⟩
  | .local _ .vmem, ⟨5, _⟩ => ⟨S1x1x15, .f32⟩
  | .local _ .vmem, ⟨6, _⟩ => ⟨S1x1x15, .f32⟩
  | .local _ .vmem, ⟨7, _⟩ => ⟨S1x1x15, .f32⟩
  | .local _ .vmem, ⟨8, _⟩ => ⟨S1x1x15, .f32⟩
  | .local _ .vmem, ⟨9, _⟩ => ⟨S1x1x15, .f32⟩
  | .local _ .vmem, ⟨10, _⟩ => ⟨S1x1x15, .f32⟩
  | .local _ .vmem, ⟨11, _⟩ => ⟨S2x1x15, .f32⟩
  | .local _ .vmem, ⟨12, _⟩ => ⟨S2x1x15, .f32⟩
  | .local _ .vmem, ⟨13, _⟩ => ⟨S2x1x15, .f32⟩
  | .local _ .vmem, ⟨14, _⟩ => ⟨S1x1, .f32⟩
  | _, _ => ⟨S1000000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem2_0 : DmaSem sig := 13
abbrev cc1_sem3_0 : DmaSem sig := 14

abbrev nD : Nat := 1
abbrev τ : Topo := Topo.v7x

variable {F : FTy → Type} [FloatOps F]

abbrev grid0 : Pipeline.Grid := ⟨2, ![2, 125], ![false, false]⟩

def k0_off1 (i : grid0.Coords) : Fin 2 → Nat :=
  let arg0 : BitVec 32 := BitVec.ofNat 32 (i 0).val
  let c125_i32 : BitVec 32 := 125#32
  let v4 : BitVec 32 := Scalar.muli arg0 c125_i32
  let arg1 : BitVec 32 := BitVec.ofNat 32 (i 1).val
  let v5 : BitVec 32 := Scalar.addi v4 arg1
  let c8_i32 : BitVec 32 := 8#32
  let c0_i32_2 : BitVec 32 := 0#32
  let v6 : BitVec 1 := Scalar.cmpi .eq c8_i32 c0_i32_2
  let c1_i32 : BitVec 32 := 1#32
  let v7 : BitVec 32 := Scalar.select v6 c1_i32 c8_i32
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v16 : Index := Scalar.indexCast v15
  let c0_6 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x15 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x15 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x15 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x15 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := .none

abbrev stage1_0 : Fin 1 → Memref sig .tc .vmem S2x1x15 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x1x15 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x1x15 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S1000000x100 : Shape := ⟨2, ![1000000, 100]⟩
abbrev S1000000 : Shape := ⟨1, ![1000000]⟩
abbrev S_ : Shape := ⟨0, ![]⟩
abbrev S1000000x1 : Shape := ⟨2, ![1000000, 1]⟩
abbrev S1 : Shape := ⟨1, ![1]⟩

abbrev nBuf : Space → Nat
  | .hbm => 507
  | .vmem => 0
  | .smem => 0
  | _ => 0

abbrev hbmTy0_0 (i : Nat) : BufTy := match i % 128 with
  | 0 => ⟨S1000000x100, .f32⟩
  | 1 => ⟨S1000000, .i32⟩
  | 2 => ⟨S_, .f32⟩
  | 3 => ⟨S1000000, .f32⟩
  | 4 => ⟨S_, .f32⟩
  | 5 => ⟨S1000000, .f32⟩
  | 6 => ⟨S1000000, .f32⟩
  | 7 => ⟨S1000000x1, .f32⟩
  | 8 => ⟨S1000000x100, .f32⟩
  | 9 => ⟨S1000000x100, .f32⟩
  | 10 => ⟨S1000000x100, .f32⟩
  | 11 => ⟨S_, .f32⟩
  | 12 => ⟨S1000000, .f32⟩
  | 13 => ⟨S1000000x1, .f32⟩
  | 14 => ⟨S1000000x100, .f32⟩
  | 15 => ⟨S1000000x100, .f32⟩
  | 16 => ⟨S_, .f32⟩
  | 17 => ⟨S1000000, .f32⟩
  | 18 => ⟨S1000000x100, .i32⟩
  | 19 => ⟨S_, .f32⟩
  | 20 => ⟨S_, .i32⟩
  | 21 => ⟨S1000000, .f32⟩
  | 22 => ⟨S1000000, .i32⟩
  | 23 => ⟨S1000000, .i1⟩
  | 24 => ⟨S1000000, .f32⟩
  | 25 => ⟨S_, .f32⟩
  | 26 => ⟨S1, .f32⟩
  | 27 => ⟨S_, .f32⟩
  | 28 => ⟨S1000000, .f32⟩
  | 29 => ⟨S1000000, .i1⟩
  | 30 => ⟨S_, .f32⟩
  | 31 => ⟨S1000000, .f32⟩
  | 32 => ⟨S1000000, .i1⟩
  | 33 => ⟨S1000000, .i1⟩
  | 34 => ⟨S1000000, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S1000000, .f32⟩
  | 42 => ⟨S_, .f32⟩
  | 43 => ⟨S_, .f32⟩
  | 44 => ⟨S_, .f32⟩
  | 45 => ⟨S1000000, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S1, .f32⟩
  | 58 => ⟨S1, .f32⟩
  | 59 => ⟨S_, .f32⟩
  | 60 => ⟨S1000000, .f32⟩
  | 61 => ⟨S1000000, .i1⟩
  | 62 => ⟨S_, .f32⟩
  | 63 => ⟨S1000000, .f32⟩
  | 64 => ⟨S1000000, .i1⟩
  | 65 => ⟨S1000000, .i1⟩
  | 66 => ⟨S1000000, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S1000000, .f32⟩
  | 74 => ⟨S_, .f32⟩
  | 75 => ⟨S_, .f32⟩
  | 76 => ⟨S_, .f32⟩
  | 77 => ⟨S1000000, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .i1⟩
  | 86 => ⟨S_, .f32⟩
  | 87 => ⟨S_, .f32⟩
  | 88 => ⟨S_, .f32⟩
  | 89 => ⟨S1, .f32⟩
  | 90 => ⟨S1, .f32⟩
  | 91 => ⟨S_, .f32⟩
  | 92 => ⟨S1000000, .f32⟩
  | 93 => ⟨S1000000, .i1⟩
  | 94 => ⟨S_, .f32⟩
  | 95 => ⟨S1000000, .f32⟩
  | 96 => ⟨S1000000, .i1⟩
  | 97 => ⟨S1000000, .i1⟩
  | 98 => ⟨S1000000, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S1000000, .f32⟩
  | 106 => ⟨S_, .f32⟩
  | 107 => ⟨S_, .f32⟩
  | 108 => ⟨S_, .f32⟩
  | 109 => ⟨S1000000, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .i1⟩
  | 118 => ⟨S_, .f32⟩
  | 119 => ⟨S_, .f32⟩
  | 120 => ⟨S_, .f32⟩
  | 121 => ⟨S1, .f32⟩
  | 122 => ⟨S1, .f32⟩
  | 123 => ⟨S_, .f32⟩
  | 124 => ⟨S1000000, .f32⟩
  | 125 => ⟨S1000000, .i1⟩
  | 126 => ⟨S_, .f32⟩
  | 127 => ⟨S1000000, .f32⟩
  | _ => ⟨S1000000x100, .f32⟩

abbrev hbmTy0_1 (i : Nat) : BufTy := match i % 128 with
  | 0 => ⟨S1000000, .i1⟩
  | 1 => ⟨S1000000, .i1⟩
  | 2 => ⟨S1000000, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S1000000, .f32⟩
  | 10 => ⟨S_, .f32⟩
  | 11 => ⟨S_, .f32⟩
  | 12 => ⟨S_, .f32⟩
  | 13 => ⟨S1000000, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .i1⟩
  | 22 => ⟨S_, .f32⟩
  | 23 => ⟨S_, .f32⟩
  | 24 => ⟨S_, .f32⟩
  | 25 => ⟨S1, .f32⟩
  | 26 => ⟨S1, .f32⟩
  | 27 => ⟨S_, .f32⟩
  | 28 => ⟨S1000000, .f32⟩
  | 29 => ⟨S1000000, .i1⟩
  | 30 => ⟨S_, .f32⟩
  | 31 => ⟨S1000000, .f32⟩
  | 32 => ⟨S1000000, .i1⟩
  | 33 => ⟨S1000000, .i1⟩
  | 34 => ⟨S1000000, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S1000000, .f32⟩
  | 42 => ⟨S_, .f32⟩
  | 43 => ⟨S_, .f32⟩
  | 44 => ⟨S_, .f32⟩
  | 45 => ⟨S1000000, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S1, .f32⟩
  | 58 => ⟨S1, .f32⟩
  | 59 => ⟨S_, .f32⟩
  | 60 => ⟨S1000000, .f32⟩
  | 61 => ⟨S1000000, .i1⟩
  | 62 => ⟨S_, .f32⟩
  | 63 => ⟨S1000000, .f32⟩
  | 64 => ⟨S1000000, .i1⟩
  | 65 => ⟨S1000000, .i1⟩
  | 66 => ⟨S1000000, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S1000000, .f32⟩
  | 74 => ⟨S_, .f32⟩
  | 75 => ⟨S_, .f32⟩
  | 76 => ⟨S_, .f32⟩
  | 77 => ⟨S1000000, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .i1⟩
  | 86 => ⟨S_, .f32⟩
  | 87 => ⟨S_, .f32⟩
  | 88 => ⟨S_, .f32⟩
  | 89 => ⟨S1, .f32⟩
  | 90 => ⟨S1, .f32⟩
  | 91 => ⟨S_, .f32⟩
  | 92 => ⟨S1000000, .f32⟩
  | 93 => ⟨S1000000, .i1⟩
  | 94 => ⟨S_, .f32⟩
  | 95 => ⟨S1000000, .f32⟩
  | 96 => ⟨S1000000, .i1⟩
  | 97 => ⟨S1000000, .i1⟩
  | 98 => ⟨S1000000, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S1000000, .f32⟩
  | 106 => ⟨S_, .f32⟩
  | 107 => ⟨S_, .f32⟩
  | 108 => ⟨S_, .f32⟩
  | 109 => ⟨S1000000, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .i1⟩
  | 118 => ⟨S_, .f32⟩
  | 119 => ⟨S_, .f32⟩
  | 120 => ⟨S_, .f32⟩
  | 121 => ⟨S1, .f32⟩
  | 122 => ⟨S1, .f32⟩
  | 123 => ⟨S_, .f32⟩
  | 124 => ⟨S1000000, .f32⟩
  | 125 => ⟨S1000000, .i1⟩
  | 126 => ⟨S_, .f32⟩
  | 127 => ⟨S1000000, .f32⟩
  | _ => ⟨S1000000x100, .f32⟩

abbrev hbmTy0_2 (i : Nat) : BufTy := match i % 128 with
  | 0 => ⟨S1000000, .i1⟩
  | 1 => ⟨S1000000, .i1⟩
  | 2 => ⟨S1000000, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S1000000, .f32⟩
  | 10 => ⟨S_, .f32⟩
  | 11 => ⟨S_, .f32⟩
  | 12 => ⟨S_, .f32⟩
  | 13 => ⟨S1000000, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .i1⟩
  | 22 => ⟨S_, .f32⟩
  | 23 => ⟨S_, .f32⟩
  | 24 => ⟨S_, .f32⟩
  | 25 => ⟨S1, .f32⟩
  | 26 => ⟨S1, .f32⟩
  | 27 => ⟨S_, .f32⟩
  | 28 => ⟨S1000000, .f32⟩
  | 29 => ⟨S1000000, .i1⟩
  | 30 => ⟨S_, .f32⟩
  | 31 => ⟨S1000000, .f32⟩
  | 32 => ⟨S1000000, .i1⟩
  | 33 => ⟨S1000000, .i1⟩
  | 34 => ⟨S1000000, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S1000000, .f32⟩
  | 42 => ⟨S_, .f32⟩
  | 43 => ⟨S_, .f32⟩
  | 44 => ⟨S_, .f32⟩
  | 45 => ⟨S1000000, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S1, .f32⟩
  | 58 => ⟨S1, .f32⟩
  | 59 => ⟨S_, .f32⟩
  | 60 => ⟨S1000000, .f32⟩
  | 61 => ⟨S1000000, .i1⟩
  | 62 => ⟨S_, .f32⟩
  | 63 => ⟨S1000000, .f32⟩
  | 64 => ⟨S1000000, .i1⟩
  | 65 => ⟨S1000000, .i1⟩
  | 66 => ⟨S1000000, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S1000000, .f32⟩
  | 74 => ⟨S_, .f32⟩
  | 75 => ⟨S_, .f32⟩
  | 76 => ⟨S_, .f32⟩
  | 77 => ⟨S1000000, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .i1⟩
  | 86 => ⟨S_, .f32⟩
  | 87 => ⟨S_, .f32⟩
  | 88 => ⟨S_, .f32⟩
  | 89 => ⟨S1, .f32⟩
  | 90 => ⟨S1, .f32⟩
  | 91 => ⟨S_, .f32⟩
  | 92 => ⟨S1000000, .f32⟩
  | 93 => ⟨S1000000, .i1⟩
  | 94 => ⟨S_, .f32⟩
  | 95 => ⟨S1000000, .f32⟩
  | 96 => ⟨S1000000, .i1⟩
  | 97 => ⟨S1000000, .i1⟩
  | 98 => ⟨S1000000, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S1000000, .f32⟩
  | 106 => ⟨S_, .f32⟩
  | 107 => ⟨S_, .f32⟩
  | 108 => ⟨S_, .f32⟩
  | 109 => ⟨S1000000, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .i1⟩
  | 118 => ⟨S_, .f32⟩
  | 119 => ⟨S_, .f32⟩
  | 120 => ⟨S_, .f32⟩
  | 121 => ⟨S1, .f32⟩
  | 122 => ⟨S1, .f32⟩
  | 123 => ⟨S_, .f32⟩
  | 124 => ⟨S1000000, .f32⟩
  | 125 => ⟨S1000000, .i1⟩
  | 126 => ⟨S_, .f32⟩
  | 127 => ⟨S1000000, .f32⟩
  | _ => ⟨S1000000x100, .f32⟩

abbrev hbmTy0_3 (i : Nat) : BufTy := match i % 128 with
  | 0 => ⟨S1000000, .i1⟩
  | 1 => ⟨S1000000, .i1⟩
  | 2 => ⟨S1000000, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S1000000, .f32⟩
  | 10 => ⟨S_, .f32⟩
  | 11 => ⟨S_, .f32⟩
  | 12 => ⟨S_, .f32⟩
  | 13 => ⟨S1000000, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .i1⟩
  | 22 => ⟨S_, .f32⟩
  | 23 => ⟨S_, .f32⟩
  | 24 => ⟨S_, .f32⟩
  | 25 => ⟨S1, .f32⟩
  | 26 => ⟨S1, .f32⟩
  | 27 => ⟨S_, .f32⟩
  | 28 => ⟨S1000000, .f32⟩
  | 29 => ⟨S1000000, .i1⟩
  | 30 => ⟨S_, .f32⟩
  | 31 => ⟨S1000000, .f32⟩
  | 32 => ⟨S1000000, .i1⟩
  | 33 => ⟨S1000000, .i1⟩
  | 34 => ⟨S1000000, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S1000000, .f32⟩
  | 42 => ⟨S_, .f32⟩
  | 43 => ⟨S_, .f32⟩
  | 44 => ⟨S_, .f32⟩
  | 45 => ⟨S1000000, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S1, .f32⟩
  | 58 => ⟨S1, .f32⟩
  | 59 => ⟨S_, .f32⟩
  | 60 => ⟨S1000000, .f32⟩
  | 61 => ⟨S1000000, .i1⟩
  | 62 => ⟨S_, .f32⟩
  | 63 => ⟨S1000000, .f32⟩
  | 64 => ⟨S1000000, .i1⟩
  | 65 => ⟨S1000000, .i1⟩
  | 66 => ⟨S1000000, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S1000000, .f32⟩
  | 74 => ⟨S_, .f32⟩
  | 75 => ⟨S_, .f32⟩
  | 76 => ⟨S_, .f32⟩
  | 77 => ⟨S1000000, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .i1⟩
  | 86 => ⟨S_, .f32⟩
  | 87 => ⟨S_, .f32⟩
  | 88 => ⟨S_, .f32⟩
  | 89 => ⟨S1, .f32⟩
  | 90 => ⟨S1, .f32⟩
  | 91 => ⟨S_, .f32⟩
  | 92 => ⟨S1000000, .f32⟩
  | 93 => ⟨S1000000, .i1⟩
  | 94 => ⟨S_, .f32⟩
  | 95 => ⟨S1000000, .f32⟩
  | 96 => ⟨S1000000, .i1⟩
  | 97 => ⟨S1000000, .i1⟩
  | 98 => ⟨S1000000, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S1000000, .f32⟩
  | 106 => ⟨S_, .f32⟩
  | 107 => ⟨S_, .f32⟩
  | 108 => ⟨S_, .f32⟩
  | 109 => ⟨S1000000, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .i1⟩
  | 118 => ⟨S_, .f32⟩
  | 119 => ⟨S_, .f32⟩
  | 120 => ⟨S_, .f32⟩
  | 121 => ⟨S1, .f32⟩
  | 122 => ⟨S1, .f32⟩
  | _ => ⟨S1000000x100, .f32⟩

abbrev hbmTy (i : Nat) : BufTy := match i / 128 with
  | 0 => hbmTy0_0 i
  | 1 => hbmTy0_1 i
  | 2 => hbmTy0_2 i
  | 3 => hbmTy0_3 i
  | _ => ⟨S1000000x100, .f32⟩

abbrev bufTy : (tb : Table) → Fin (tcTables nBuf tb) → BufTy
  | .hbm, ⟨i, _⟩ => hbmTy i
  | _, _ => ⟨S1000000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_cst_9 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_10 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_11 : Ref sig .tc := ⟨.hbm, 52, rfl⟩
abbrev main_v34 : Ref sig .tc := ⟨.hbm, 53, rfl⟩
abbrev main_cst_12 : Ref sig .tc := ⟨.hbm, 54, rfl⟩
abbrev main_call1_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_13 : Ref sig .tc := ⟨.hbm, 59, rfl⟩
abbrev main_v38 : Ref sig .tc := ⟨.hbm, 60, rfl⟩
abbrev main_v39 : Ref sig .tc := ⟨.hbm, 61, rfl⟩
abbrev main_cst_14 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_15 : Ref sig .tc := ⟨.hbm, 67, rfl⟩
abbrev main_v44 : Ref sig .tc := ⟨.hbm, 68, rfl⟩
abbrev main_cst_16 : Ref sig .tc := ⟨.hbm, 69, rfl⟩
abbrev main_v45 : Ref sig .tc := ⟨.hbm, 70, rfl⟩
abbrev main_cst_17 : Ref sig .tc := ⟨.hbm, 71, rfl⟩
abbrev main_v46 : Ref sig .tc := ⟨.hbm, 72, rfl⟩
abbrev main_v47 : Ref sig .tc := ⟨.hbm, 73, rfl⟩
abbrev main_cst_18 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_19 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_20 : Ref sig .tc := ⟨.hbm, 84, rfl⟩
abbrev main_v56 : Ref sig .tc := ⟨.hbm, 85, rfl⟩
abbrev main_cst_21 : Ref sig .tc := ⟨.hbm, 86, rfl⟩
abbrev main_call2_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_22 : Ref sig .tc := ⟨.hbm, 91, rfl⟩
abbrev main_v60 : Ref sig .tc := ⟨.hbm, 92, rfl⟩
abbrev main_v61 : Ref sig .tc := ⟨.hbm, 93, rfl⟩
abbrev main_cst_23 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_24 : Ref sig .tc := ⟨.hbm, 99, rfl⟩
abbrev main_v66 : Ref sig .tc := ⟨.hbm, 100, rfl⟩
abbrev main_cst_25 : Ref sig .tc := ⟨.hbm, 101, rfl⟩
abbrev main_v67 : Ref sig .tc := ⟨.hbm, 102, rfl⟩
abbrev main_cst_26 : Ref sig .tc := ⟨.hbm, 103, rfl⟩
abbrev main_v68 : Ref sig .tc := ⟨.hbm, 104, rfl⟩
abbrev main_v69 : Ref sig .tc := ⟨.hbm, 105, rfl⟩
abbrev main_cst_27 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_28 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_29 : Ref sig .tc := ⟨.hbm, 116, rfl⟩
abbrev main_v78 : Ref sig .tc := ⟨.hbm, 117, rfl⟩
abbrev main_cst_30 : Ref sig .tc := ⟨.hbm, 118, rfl⟩
abbrev main_call3_v0 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_31 : Ref sig .tc := ⟨.hbm, 123, rfl⟩
abbrev main_v82 : Ref sig .tc := ⟨.hbm, 124, rfl⟩
abbrev main_v83 : Ref sig .tc := ⟨.hbm, 125, rfl⟩
abbrev main_cst_32 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_33 : Ref sig .tc := ⟨.hbm, 131, rfl⟩
abbrev main_v88 : Ref sig .tc := ⟨.hbm, 132, rfl⟩
abbrev main_cst_34 : Ref sig .tc := ⟨.hbm, 133, rfl⟩
abbrev main_v89 : Ref sig .tc := ⟨.hbm, 134, rfl⟩
abbrev main_cst_35 : Ref sig .tc := ⟨.hbm, 135, rfl⟩
abbrev main_v90 : Ref sig .tc := ⟨.hbm, 136, rfl⟩
abbrev main_v91 : Ref sig .tc := ⟨.hbm, 137, rfl⟩
abbrev main_cst_36 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_37 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_38 : Ref sig .tc := ⟨.hbm, 148, rfl⟩
abbrev main_v100 : Ref sig .tc := ⟨.hbm, 149, rfl⟩
abbrev main_cst_39 : Ref sig .tc := ⟨.hbm, 150, rfl⟩
abbrev main_call4_v0 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_40 : Ref sig .tc := ⟨.hbm, 155, rfl⟩
abbrev main_v104 : Ref sig .tc := ⟨.hbm, 156, rfl⟩
abbrev main_v105 : Ref sig .tc := ⟨.hbm, 157, rfl⟩
abbrev main_cst_41 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_42 : Ref sig .tc := ⟨.hbm, 163, rfl⟩
abbrev main_v110 : Ref sig .tc := ⟨.hbm, 164, rfl⟩
abbrev main_cst_43 : Ref sig .tc := ⟨.hbm, 165, rfl⟩
abbrev main_v111 : Ref sig .tc := ⟨.hbm, 166, rfl⟩
abbrev main_cst_44 : Ref sig .tc := ⟨.hbm, 167, rfl⟩
abbrev main_v112 : Ref sig .tc := ⟨.hbm, 168, rfl⟩
abbrev main_v113 : Ref sig .tc := ⟨.hbm, 169, rfl⟩
abbrev main_cst_45 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_cst_46 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_cst_47 : Ref sig .tc := ⟨.hbm, 180, rfl⟩
abbrev main_v122 : Ref sig .tc := ⟨.hbm, 181, rfl⟩
abbrev main_cst_48 : Ref sig .tc := ⟨.hbm, 182, rfl⟩
abbrev main_call5_v0 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_cst_49 : Ref sig .tc := ⟨.hbm, 187, rfl⟩
abbrev main_v126 : Ref sig .tc := ⟨.hbm, 188, rfl⟩
abbrev main_v127 : Ref sig .tc := ⟨.hbm, 189, rfl⟩
abbrev main_cst_50 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_cst_51 : Ref sig .tc := ⟨.hbm, 195, rfl⟩
abbrev main_v132 : Ref sig .tc := ⟨.hbm, 196, rfl⟩
abbrev main_cst_52 : Ref sig .tc := ⟨.hbm, 197, rfl⟩
abbrev main_v133 : Ref sig .tc := ⟨.hbm, 198, rfl⟩
abbrev main_cst_53 : Ref sig .tc := ⟨.hbm, 199, rfl⟩
abbrev main_v134 : Ref sig .tc := ⟨.hbm, 200, rfl⟩
abbrev main_v135 : Ref sig .tc := ⟨.hbm, 201, rfl⟩
abbrev main_cst_54 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_cst_55 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_cst_56 : Ref sig .tc := ⟨.hbm, 212, rfl⟩
abbrev main_v144 : Ref sig .tc := ⟨.hbm, 213, rfl⟩
abbrev main_cst_57 : Ref sig .tc := ⟨.hbm, 214, rfl⟩
abbrev main_call6_v0 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_cst_58 : Ref sig .tc := ⟨.hbm, 219, rfl⟩
abbrev main_v148 : Ref sig .tc := ⟨.hbm, 220, rfl⟩
abbrev main_v149 : Ref sig .tc := ⟨.hbm, 221, rfl⟩
abbrev main_cst_59 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_cst_60 : Ref sig .tc := ⟨.hbm, 227, rfl⟩
abbrev main_v154 : Ref sig .tc := ⟨.hbm, 228, rfl⟩
abbrev main_cst_61 : Ref sig .tc := ⟨.hbm, 229, rfl⟩
abbrev main_v155 : Ref sig .tc := ⟨.hbm, 230, rfl⟩
abbrev main_cst_62 : Ref sig .tc := ⟨.hbm, 231, rfl⟩
abbrev main_v156 : Ref sig .tc := ⟨.hbm, 232, rfl⟩
abbrev main_v157 : Ref sig .tc := ⟨.hbm, 233, rfl⟩
abbrev main_cst_63 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_cst_64 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_cst_65 : Ref sig .tc := ⟨.hbm, 244, rfl⟩
abbrev main_v166 : Ref sig .tc := ⟨.hbm, 245, rfl⟩
abbrev main_cst_66 : Ref sig .tc := ⟨.hbm, 246, rfl⟩
abbrev main_call7_v0 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_cst_67 : Ref sig .tc := ⟨.hbm, 251, rfl⟩
abbrev main_v170 : Ref sig .tc := ⟨.hbm, 252, rfl⟩
abbrev main_v171 : Ref sig .tc := ⟨.hbm, 253, rfl⟩
abbrev main_cst_68 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_cst_69 : Ref sig .tc := ⟨.hbm, 259, rfl⟩
abbrev main_v176 : Ref sig .tc := ⟨.hbm, 260, rfl⟩
abbrev main_cst_70 : Ref sig .tc := ⟨.hbm, 261, rfl⟩
abbrev main_v177 : Ref sig .tc := ⟨.hbm, 262, rfl⟩
abbrev main_cst_71 : Ref sig .tc := ⟨.hbm, 263, rfl⟩
abbrev main_v178 : Ref sig .tc := ⟨.hbm, 264, rfl⟩
abbrev main_v179 : Ref sig .tc := ⟨.hbm, 265, rfl⟩
abbrev main_cst_72 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_cst_73 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_cst_74 : Ref sig .tc := ⟨.hbm, 276, rfl⟩
abbrev main_v188 : Ref sig .tc := ⟨.hbm, 277, rfl⟩
abbrev main_cst_75 : Ref sig .tc := ⟨.hbm, 278, rfl⟩
abbrev main_call8_v0 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_cst_76 : Ref sig .tc := ⟨.hbm, 283, rfl⟩
abbrev main_v192 : Ref sig .tc := ⟨.hbm, 284, rfl⟩
abbrev main_v193 : Ref sig .tc := ⟨.hbm, 285, rfl⟩
abbrev main_cst_77 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_cst_78 : Ref sig .tc := ⟨.hbm, 291, rfl⟩
abbrev main_v198 : Ref sig .tc := ⟨.hbm, 292, rfl⟩
abbrev main_cst_79 : Ref sig .tc := ⟨.hbm, 293, rfl⟩
abbrev main_v199 : Ref sig .tc := ⟨.hbm, 294, rfl⟩
abbrev main_cst_80 : Ref sig .tc := ⟨.hbm, 295, rfl⟩
abbrev main_v200 : Ref sig .tc := ⟨.hbm, 296, rfl⟩
abbrev main_v201 : Ref sig .tc := ⟨.hbm, 297, rfl⟩
abbrev main_cst_81 : Ref sig .tc := ⟨.hbm, 298, rfl⟩
abbrev main_v202 : Ref sig .tc := ⟨.hbm, 299, rfl⟩
abbrev main_v203 : Ref sig .tc := ⟨.hbm, 300, rfl⟩
abbrev main_v204 : Ref sig .tc := ⟨.hbm, 301, rfl⟩
abbrev main_cst_82 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_cst_83 : Ref sig .tc := ⟨.hbm, 308, rfl⟩
abbrev main_v210 : Ref sig .tc := ⟨.hbm, 309, rfl⟩
abbrev main_cst_84 : Ref sig .tc := ⟨.hbm, 310, rfl⟩
abbrev main_call9_v0 : Ref sig .tc := ⟨.hbm, 311, rfl⟩
abbrev main_v211 : Ref sig .tc := ⟨.hbm, 312, rfl⟩
abbrev main_v212 : Ref sig .tc := ⟨.hbm, 313, rfl⟩
abbrev main_v213 : Ref sig .tc := ⟨.hbm, 314, rfl⟩
abbrev main_cst_85 : Ref sig .tc := ⟨.hbm, 315, rfl⟩
abbrev main_v214 : Ref sig .tc := ⟨.hbm, 316, rfl⟩
abbrev main_v215 : Ref sig .tc := ⟨.hbm, 317, rfl⟩
abbrev main_cst_86 : Ref sig .tc := ⟨.hbm, 318, rfl⟩
abbrev main_v216 : Ref sig .tc := ⟨.hbm, 319, rfl⟩
abbrev main_v217 : Ref sig .tc := ⟨.hbm, 320, rfl⟩
abbrev main_v218 : Ref sig .tc := ⟨.hbm, 321, rfl⟩
abbrev main_v219 : Ref sig .tc := ⟨.hbm, 322, rfl⟩
abbrev main_cst_87 : Ref sig .tc := ⟨.hbm, 323, rfl⟩
abbrev main_v220 : Ref sig .tc := ⟨.hbm, 324, rfl⟩
abbrev main_cst_88 : Ref sig .tc := ⟨.hbm, 325, rfl⟩
abbrev main_v221 : Ref sig .tc := ⟨.hbm, 326, rfl⟩
abbrev main_cst_89 : Ref sig .tc := ⟨.hbm, 327, rfl⟩
abbrev main_v222 : Ref sig .tc := ⟨.hbm, 328, rfl⟩
abbrev main_v223 : Ref sig .tc := ⟨.hbm, 329, rfl⟩
abbrev main_cst_90 : Ref sig .tc := ⟨.hbm, 330, rfl⟩
abbrev main_v224 : Ref sig .tc := ⟨.hbm, 331, rfl⟩
abbrev main_v225 : Ref sig .tc := ⟨.hbm, 332, rfl⟩
abbrev main_v226 : Ref sig .tc := ⟨.hbm, 333, rfl⟩
abbrev main_cst_91 : Ref sig .tc := ⟨.hbm, 334, rfl⟩
abbrev main_v227 : Ref sig .tc := ⟨.hbm, 335, rfl⟩
abbrev main_v228 : Ref sig .tc := ⟨.hbm, 336, rfl⟩
abbrev main_v229 : Ref sig .tc := ⟨.hbm, 337, rfl⟩
abbrev main_v230 : Ref sig .tc := ⟨.hbm, 338, rfl⟩
abbrev main_v231 : Ref sig .tc := ⟨.hbm, 339, rfl⟩
abbrev main_cst_92 : Ref sig .tc := ⟨.hbm, 340, rfl⟩
abbrev main_v232 : Ref sig .tc := ⟨.hbm, 341, rfl⟩
abbrev main_cst_93 : Ref sig .tc := ⟨.hbm, 342, rfl⟩
abbrev main_call10_v0 : Ref sig .tc := ⟨.hbm, 343, rfl⟩
abbrev main_v233 : Ref sig .tc := ⟨.hbm, 344, rfl⟩
abbrev main_v234 : Ref sig .tc := ⟨.hbm, 345, rfl⟩
abbrev main_v235 : Ref sig .tc := ⟨.hbm, 346, rfl⟩
abbrev main_cst_94 : Ref sig .tc := ⟨.hbm, 347, rfl⟩
abbrev main_v236 : Ref sig .tc := ⟨.hbm, 348, rfl⟩
abbrev main_v237 : Ref sig .tc := ⟨.hbm, 349, rfl⟩
abbrev main_cst_95 : Ref sig .tc := ⟨.hbm, 350, rfl⟩
abbrev main_v238 : Ref sig .tc := ⟨.hbm, 351, rfl⟩
abbrev main_v239 : Ref sig .tc := ⟨.hbm, 352, rfl⟩
abbrev main_v240 : Ref sig .tc := ⟨.hbm, 353, rfl⟩
abbrev main_v241 : Ref sig .tc := ⟨.hbm, 354, rfl⟩
abbrev main_cst_96 : Ref sig .tc := ⟨.hbm, 355, rfl⟩
abbrev main_v242 : Ref sig .tc := ⟨.hbm, 356, rfl⟩
abbrev main_cst_97 : Ref sig .tc := ⟨.hbm, 357, rfl⟩
abbrev main_v243 : Ref sig .tc := ⟨.hbm, 358, rfl⟩
abbrev main_cst_98 : Ref sig .tc := ⟨.hbm, 359, rfl⟩
abbrev main_v244 : Ref sig .tc := ⟨.hbm, 360, rfl⟩
abbrev main_v245 : Ref sig .tc := ⟨.hbm, 361, rfl⟩
abbrev main_cst_99 : Ref sig .tc := ⟨.hbm, 362, rfl⟩
abbrev main_v246 : Ref sig .tc := ⟨.hbm, 363, rfl⟩
abbrev main_v247 : Ref sig .tc := ⟨.hbm, 364, rfl⟩
abbrev main_v248 : Ref sig .tc := ⟨.hbm, 365, rfl⟩
abbrev main_cst_100 : Ref sig .tc := ⟨.hbm, 366, rfl⟩
abbrev main_v249 : Ref sig .tc := ⟨.hbm, 367, rfl⟩
abbrev main_v250 : Ref sig .tc := ⟨.hbm, 368, rfl⟩
abbrev main_v251 : Ref sig .tc := ⟨.hbm, 369, rfl⟩
abbrev main_v252 : Ref sig .tc := ⟨.hbm, 370, rfl⟩
abbrev main_v253 : Ref sig .tc := ⟨.hbm, 371, rfl⟩
abbrev main_cst_101 : Ref sig .tc := ⟨.hbm, 372, rfl⟩
abbrev main_v254 : Ref sig .tc := ⟨.hbm, 373, rfl⟩
abbrev main_cst_102 : Ref sig .tc := ⟨.hbm, 374, rfl⟩
abbrev main_call11_v0 : Ref sig .tc := ⟨.hbm, 375, rfl⟩
abbrev main_v255 : Ref sig .tc := ⟨.hbm, 376, rfl⟩
abbrev main_v256 : Ref sig .tc := ⟨.hbm, 377, rfl⟩
abbrev main_v257 : Ref sig .tc := ⟨.hbm, 378, rfl⟩
abbrev main_cst_103 : Ref sig .tc := ⟨.hbm, 379, rfl⟩
abbrev main_v258 : Ref sig .tc := ⟨.hbm, 380, rfl⟩
abbrev main_v259 : Ref sig .tc := ⟨.hbm, 381, rfl⟩
abbrev main_cst_104 : Ref sig .tc := ⟨.hbm, 382, rfl⟩
abbrev main_v260 : Ref sig .tc := ⟨.hbm, 383, rfl⟩
abbrev main_v261 : Ref sig .tc := ⟨.hbm, 384, rfl⟩
abbrev main_v262 : Ref sig .tc := ⟨.hbm, 385, rfl⟩
abbrev main_v263 : Ref sig .tc := ⟨.hbm, 386, rfl⟩
abbrev main_cst_105 : Ref sig .tc := ⟨.hbm, 387, rfl⟩
abbrev main_v264 : Ref sig .tc := ⟨.hbm, 388, rfl⟩
abbrev main_cst_106 : Ref sig .tc := ⟨.hbm, 389, rfl⟩
abbrev main_v265 : Ref sig .tc := ⟨.hbm, 390, rfl⟩
abbrev main_cst_107 : Ref sig .tc := ⟨.hbm, 391, rfl⟩
abbrev main_v266 : Ref sig .tc := ⟨.hbm, 392, rfl⟩
abbrev main_v267 : Ref sig .tc := ⟨.hbm, 393, rfl⟩
abbrev main_cst_108 : Ref sig .tc := ⟨.hbm, 394, rfl⟩
abbrev main_v268 : Ref sig .tc := ⟨.hbm, 395, rfl⟩
abbrev main_v269 : Ref sig .tc := ⟨.hbm, 396, rfl⟩
abbrev main_v270 : Ref sig .tc := ⟨.hbm, 397, rfl⟩
abbrev main_cst_109 : Ref sig .tc := ⟨.hbm, 398, rfl⟩
abbrev main_v271 : Ref sig .tc := ⟨.hbm, 399, rfl⟩
abbrev main_v272 : Ref sig .tc := ⟨.hbm, 400, rfl⟩
abbrev main_v273 : Ref sig .tc := ⟨.hbm, 401, rfl⟩
abbrev main_v274 : Ref sig .tc := ⟨.hbm, 402, rfl⟩
abbrev main_v275 : Ref sig .tc := ⟨.hbm, 403, rfl⟩
abbrev main_cst_110 : Ref sig .tc := ⟨.hbm, 404, rfl⟩
abbrev main_v276 : Ref sig .tc := ⟨.hbm, 405, rfl⟩
abbrev main_cst_111 : Ref sig .tc := ⟨.hbm, 406, rfl⟩
abbrev main_call12_v0 : Ref sig .tc := ⟨.hbm, 407, rfl⟩
abbrev main_v277 : Ref sig .tc := ⟨.hbm, 408, rfl⟩
abbrev main_v278 : Ref sig .tc := ⟨.hbm, 409, rfl⟩
abbrev main_v279 : Ref sig .tc := ⟨.hbm, 410, rfl⟩
abbrev main_cst_112 : Ref sig .tc := ⟨.hbm, 411, rfl⟩
abbrev main_v280 : Ref sig .tc := ⟨.hbm, 412, rfl⟩
abbrev main_v281 : Ref sig .tc := ⟨.hbm, 413, rfl⟩
abbrev main_cst_113 : Ref sig .tc := ⟨.hbm, 414, rfl⟩
abbrev main_v282 : Ref sig .tc := ⟨.hbm, 415, rfl⟩
abbrev main_v283 : Ref sig .tc := ⟨.hbm, 416, rfl⟩
abbrev main_v284 : Ref sig .tc := ⟨.hbm, 417, rfl⟩
abbrev main_v285 : Ref sig .tc := ⟨.hbm, 418, rfl⟩
abbrev main_cst_114 : Ref sig .tc := ⟨.hbm, 419, rfl⟩
abbrev main_v286 : Ref sig .tc := ⟨.hbm, 420, rfl⟩
abbrev main_cst_115 : Ref sig .tc := ⟨.hbm, 421, rfl⟩
abbrev main_v287 : Ref sig .tc := ⟨.hbm, 422, rfl⟩
abbrev main_cst_116 : Ref sig .tc := ⟨.hbm, 423, rfl⟩
abbrev main_v288 : Ref sig .tc := ⟨.hbm, 424, rfl⟩
abbrev main_v289 : Ref sig .tc := ⟨.hbm, 425, rfl⟩
abbrev main_cst_117 : Ref sig .tc := ⟨.hbm, 426, rfl⟩
abbrev main_v290 : Ref sig .tc := ⟨.hbm, 427, rfl⟩
abbrev main_v291 : Ref sig .tc := ⟨.hbm, 428, rfl⟩
abbrev main_v292 : Ref sig .tc := ⟨.hbm, 429, rfl⟩
abbrev main_cst_118 : Ref sig .tc := ⟨.hbm, 430, rfl⟩
abbrev main_v293 : Ref sig .tc := ⟨.hbm, 431, rfl⟩
abbrev main_v294 : Ref sig .tc := ⟨.hbm, 432, rfl⟩
abbrev main_v295 : Ref sig .tc := ⟨.hbm, 433, rfl⟩
abbrev main_v296 : Ref sig .tc := ⟨.hbm, 434, rfl⟩
abbrev main_v297 : Ref sig .tc := ⟨.hbm, 435, rfl⟩
abbrev main_cst_119 : Ref sig .tc := ⟨.hbm, 436, rfl⟩
abbrev main_v298 : Ref sig .tc := ⟨.hbm, 437, rfl⟩
abbrev main_cst_120 : Ref sig .tc := ⟨.hbm, 438, rfl⟩
abbrev main_call13_v0 : Ref sig .tc := ⟨.hbm, 439, rfl⟩
abbrev main_v299 : Ref sig .tc := ⟨.hbm, 440, rfl⟩
abbrev main_v300 : Ref sig .tc := ⟨.hbm, 441, rfl⟩
abbrev main_v301 : Ref sig .tc := ⟨.hbm, 442, rfl⟩
abbrev main_cst_121 : Ref sig .tc := ⟨.hbm, 443, rfl⟩
abbrev main_v302 : Ref sig .tc := ⟨.hbm, 444, rfl⟩
abbrev main_v303 : Ref sig .tc := ⟨.hbm, 445, rfl⟩
abbrev main_cst_122 : Ref sig .tc := ⟨.hbm, 446, rfl⟩
abbrev main_v304 : Ref sig .tc := ⟨.hbm, 447, rfl⟩
abbrev main_v305 : Ref sig .tc := ⟨.hbm, 448, rfl⟩
abbrev main_v306 : Ref sig .tc := ⟨.hbm, 449, rfl⟩
abbrev main_v307 : Ref sig .tc := ⟨.hbm, 450, rfl⟩
abbrev main_cst_123 : Ref sig .tc := ⟨.hbm, 451, rfl⟩
abbrev main_v308 : Ref sig .tc := ⟨.hbm, 452, rfl⟩
abbrev main_cst_124 : Ref sig .tc := ⟨.hbm, 453, rfl⟩
abbrev main_v309 : Ref sig .tc := ⟨.hbm, 454, rfl⟩
abbrev main_cst_125 : Ref sig .tc := ⟨.hbm, 455, rfl⟩
abbrev main_v310 : Ref sig .tc := ⟨.hbm, 456, rfl⟩
abbrev main_v311 : Ref sig .tc := ⟨.hbm, 457, rfl⟩
abbrev main_cst_126 : Ref sig .tc := ⟨.hbm, 458, rfl⟩
abbrev main_v312 : Ref sig .tc := ⟨.hbm, 459, rfl⟩
abbrev main_v313 : Ref sig .tc := ⟨.hbm, 460, rfl⟩
abbrev main_v314 : Ref sig .tc := ⟨.hbm, 461, rfl⟩
abbrev main_cst_127 : Ref sig .tc := ⟨.hbm, 462, rfl⟩
abbrev main_v315 : Ref sig .tc := ⟨.hbm, 463, rfl⟩
abbrev main_v316 : Ref sig .tc := ⟨.hbm, 464, rfl⟩
abbrev main_v317 : Ref sig .tc := ⟨.hbm, 465, rfl⟩
abbrev main_v318 : Ref sig .tc := ⟨.hbm, 466, rfl⟩
abbrev main_v319 : Ref sig .tc := ⟨.hbm, 467, rfl⟩
abbrev main_cst_128 : Ref sig .tc := ⟨.hbm, 468, rfl⟩
abbrev main_v320 : Ref sig .tc := ⟨.hbm, 469, rfl⟩
abbrev main_cst_129 : Ref sig .tc := ⟨.hbm, 470, rfl⟩
abbrev main_call14_v0 : Ref sig .tc := ⟨.hbm, 471, rfl⟩
abbrev main_v321 : Ref sig .tc := ⟨.hbm, 472, rfl⟩
abbrev main_v322 : Ref sig .tc := ⟨.hbm, 473, rfl⟩
abbrev main_v323 : Ref sig .tc := ⟨.hbm, 474, rfl⟩
abbrev main_cst_130 : Ref sig .tc := ⟨.hbm, 475, rfl⟩
abbrev main_v324 : Ref sig .tc := ⟨.hbm, 476, rfl⟩
abbrev main_v325 : Ref sig .tc := ⟨.hbm, 477, rfl⟩
abbrev main_cst_131 : Ref sig .tc := ⟨.hbm, 478, rfl⟩
abbrev main_v326 : Ref sig .tc := ⟨.hbm, 479, rfl⟩
abbrev main_v327 : Ref sig .tc := ⟨.hbm, 480, rfl⟩
abbrev main_v328 : Ref sig .tc := ⟨.hbm, 481, rfl⟩
abbrev main_v329 : Ref sig .tc := ⟨.hbm, 482, rfl⟩
abbrev main_cst_132 : Ref sig .tc := ⟨.hbm, 483, rfl⟩
abbrev main_v330 : Ref sig .tc := ⟨.hbm, 484, rfl⟩
abbrev main_cst_133 : Ref sig .tc := ⟨.hbm, 485, rfl⟩
abbrev main_v331 : Ref sig .tc := ⟨.hbm, 486, rfl⟩
abbrev main_cst_134 : Ref sig .tc := ⟨.hbm, 487, rfl⟩
abbrev main_v332 : Ref sig .tc := ⟨.hbm, 488, rfl⟩
abbrev main_v333 : Ref sig .tc := ⟨.hbm, 489, rfl⟩
abbrev main_cst_135 : Ref sig .tc := ⟨.hbm, 490, rfl⟩
abbrev main_v334 : Ref sig .tc := ⟨.hbm, 491, rfl⟩
abbrev main_v335 : Ref sig .tc := ⟨.hbm, 492, rfl⟩
abbrev main_v336 : Ref sig .tc := ⟨.hbm, 493, rfl⟩
abbrev main_cst_136 : Ref sig .tc := ⟨.hbm, 494, rfl⟩
abbrev main_v337 : Ref sig .tc := ⟨.hbm, 495, rfl⟩
abbrev main_v338 : Ref sig .tc := ⟨.hbm, 496, rfl⟩
abbrev main_v339 : Ref sig .tc := ⟨.hbm, 497, rfl⟩
abbrev main_v340 : Ref sig .tc := ⟨.hbm, 498, rfl⟩
abbrev main_v341 : Ref sig .tc := ⟨.hbm, 499, rfl⟩
abbrev main_cst_137 : Ref sig .tc := ⟨.hbm, 500, rfl⟩
abbrev main_v342 : Ref sig .tc := ⟨.hbm, 501, rfl⟩
abbrev main_cst_138 : Ref sig .tc := ⟨.hbm, 502, rfl⟩
abbrev main_call15_v0 : Ref sig .tc := ⟨.hbm, 503, rfl⟩
abbrev main_v343 : Ref sig .tc := ⟨.hbm, 504, rfl⟩
abbrev main_v344 : Ref sig .tc := ⟨.hbm, 505, rfl⟩
abbrev main_v345 : Ref sig .tc := ⟨.hbm, 506, rfl⟩

abbrev nD : Nat := 1
abbrev τ : Topo := Topo.v7x

variable {F : FTy → Type} [FloatOps F]
-- ==== Proof.HistBody.lean ====
/-
  The body of the histogram kernel, as a triple.

  One call of `cc0__ece_hist_kernel` reads a block of 4000 rows of logits, one row of the staged labels and the two
  rows of the table of bin bounds, and adds this block's contribution to three accumulators of fifteen lanes: the
  number of rows of each bin, the sum of their confidences, and the number of those predicted correctly. At the
  first point of each of the two outer steps it first sets the accumulators to zero.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.VecWindow
public import Idealize.ShloMosaic.Lib.Tactic

@[expose] public section

noncomputable section

namespace Cert.Ece

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The row of the staged labels that grid point `i` reads. -/
def labelRow (i : grid0.Coords) (L : Vec F S8x4000 .f32) : Vec F S1x4000 .f32 :=
  View.ld (Val := Elt F) (e' := .f32) L (Rect.unit (s := S8x4000) (k0_off1 i) S1x4000.size (k0_off1_inb i))

/-- The lower bounds of the bins: row 0 of the table. -/
def loRow (T : Vec F S2x15 .f32) : Vec F S1x15 .f32 :=
  View.ld (Val := Elt F) (e' := .f32) T (Rect.unit (s := S2x15) ![0, 0] S1x15.size inb_S2x15_S1x15_0_0)

/-- The upper bounds of the bins: row 1 of the table. -/
def hiRow (T : Vec F S2x15 .f32) : Vec F S1x15 .f32 :=
  View.ld (Val := Elt F) (e' := .f32) T (Rect.unit (s := S2x15) ![1, 0] S1x15.size inb_S2x15_S1x15_1_0)

/-- The counts after a block: what they were plus the number of the block's rows in each bin. -/
def cntStep (X : Vec F S4000x100 .f32) (T : Vec F S2x15 .f32) (A : Vec F S1x1x15 .f32) : Vec F S1x1x15 .f32 :=
  k0_pay10 (k0_pay6 X) (loRow T) (hiRow T) A

/-- The sums of confidences after a block. -/
def confStep (X : Vec F S4000x100 .f32) (T : Vec F S2x15 .f32) (A : Vec F S1x1x15 .f32) : Vec F S1x1x15 .f32 :=
  k0_pay11 (k0_pay6 X) (loRow T) (hiRow T) A

/-- The numbers of correct predictions after a block, from the block's row of labels `v`. -/
def accStep (X : Vec F S4000x100 .f32) (v : Vec F S1x4000 .f32) (T : Vec F S2x15 .f32) (A : Vec F S1x1x15 .f32) : Vec F S1x1x15 .f32 :=
  k0_pay1 (k0_pay9 (k0_pay6 X) (k0_pay7 X v) (loRow T) (hiRow T)) A

/-- The printed condition of the reset, a word of the inner coordinate. -/
def resetWord (i : grid0.Coords) : BitVec 1 :=
  Scalar.cmpi .ne (Scalar.extui (Scalar.cmpi .eq (BitVec.ofNat 32 (i 1).val) 0#32) : BitVec 32) 0#32

variable (c : Dev nD) (E : Set ℕ) (i : grid0.Coords)
  (arg2 : Memref sig .tc .vmem S4000x100 .f32) (harg2 : arg2.IsWhole)
  (arg3 : Memref sig .tc .vmem S8x4000 .f32) (harg3 : arg3.IsWhole)
  (arg4 : Memref sig .tc .vmem S2x15 .f32) (harg4 : arg4.IsWhole)
  (arg5 : Memref sig .tc .vmem S1x1x15 .f32) (harg5 : arg5.IsWhole)
  (arg6 : Memref sig .tc .vmem S1x1x15 .f32) (harg6 : arg6.IsWhole)
  (arg7 : Memref sig .tc .vmem S1x1x15 .f32) (harg7 : arg7.IsWhole)
  (X : Vec F S4000x100 .f32) (L : Vec F S8x4000 .f32) (T : Vec F S2x15 .f32) (A5 A6 A7 : Vec F S1x1x15 .f32)

/-- The whole-buffer rectangle of an accumulator starts at zero. -/
theorem zero3 : (![0, 0, 0] : Fin 3 → ℕ) = fun _ => 0 := funext fun a => by fin_cases a <;> rfl
/-- The literal pair of zeros is zero on both axes. -/
theorem zero2 : (![0, 0] : Fin 2 → ℕ) = fun _ => 0 := funext fun a => by fin_cases a <;> rfl

/-- A load of a buffer's own sizes at offset zero reads the whole contents. -/
theorem readAt_all {κ : Kind} {sp : Space} {s : Shape} {e : EltTy} (v : View sig κ sp s e) (f : v.ty.Contents (Elt F))
    {off : Fin s.rank → ℕ} (h : off = fun _ => 0) (inb : ∀ a, off a + s.size a ≤ s.size a) :
    v.readAt (Elt F) (Rect.unit off s.size inb).toLoadRect f = v.read (Elt F) f :=
  View.ld_unit_zero h inb (v.read (Elt F) f)

include harg2 harg3 harg4 harg5 harg6 harg7 in
set_option maxHeartbeats 4000000 in
/-- A point that does not reset: each accumulator ends at its step of what it held; the inputs are unchanged. -/
theorem body_acc (hc : ¬ resetWord i = 1#1) (K : PUnit → sProp 𝕄) :
    iprop((owns (c : Thread nD τ) arg2 fullShare X ∗ owns (c : Thread nD τ) arg3 fullShare L ∗ owns (c : Thread nD τ) arg4 fullShare T
            ∗ owns (c : Thread nD τ) arg5 fullShare A5 ∗ owns (c : Thread nD τ) arg6 fullShare A6 ∗ owns (c : Thread nD τ) arg7 fullShare A7)
          ∗ (iprop(owns (c : Thread nD τ) arg2 fullShare X ∗ owns (c : Thread nD τ) arg3 fullShare L ∗ owns (c : Thread nD τ) arg4 fullShare T
            ∗ owns (c : Thread nD τ) arg5 fullShare (cntStep X T A5) ∗ owns (c : Thread nD τ) arg6 fullShare (confStep X T A6)
            ∗ owns (c : Thread nD τ) arg7 fullShare (accStep X (labelRow i L) T A7)) -∗ K ⟨⟩))
      ⊢ wp frame (wpE (defs₀ (F := F)) Variants.none c none) E
          (cc0__ece_hist_kernel i arg2 harg2 arg3 harg3 arg4 harg4 arg5 harg5 arg6 harg6 arg7 harg7) K := by
  unfold owns
  iintro ⟨⟨⟨%f2, %h2, H2⟩, ⟨%f3, %h3, H3⟩, ⟨%f4, %h4, H4⟩, ⟨%f5, %h5, H5⟩, ⟨%f6, %h6, H6⟩, ⟨%f7, %h7, H7⟩⟩, Hk⟩
  rw [cc0__ece_hist_kernel_eq_skeleton]; unfold cc0__ece_hist_kernel_skel
  rw [k0_part1_eq_skeleton, k0_part2_eq_skeleton]; unfold k0_part1_skel k0_part2_skel
  unfold resetWord at hc
  sl_exec (disch := sl_exact hc)
  sl_step
  iapply Hk
  rw [readAt_all arg2.view f2 zero2, readAt_all arg5.view f5 zero3, readAt_all arg6.view f6 zero3, readAt_all arg7.view f7 zero3]
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  subst h2 h3 h4 h5 h6 h7
  isplitl [H5]; · iexists _; isplitr; rotate_left; · iexact H5
                  ipureintro; exact View.read_writes_full _ _ _ _ _
  isplitl [H6]; · iexists _; isplitr; rotate_left; · iexact H6
                  ipureintro; exact View.read_writes_full _ _ _ _ _
  iexists _; isplitr; rotate_left; · iexact H7
  ipureintro; exact View.read_writes_full _ _ _ _ _

include harg2 harg3 harg4 harg5 harg6 harg7 in
set_option maxHeartbeats 4000000 in
/-- A point that resets: each accumulator ends at its step of the zero vector, whatever it held. -/
theorem body_reset (hc : resetWord i = 1#1) (K : PUnit → sProp 𝕄) :
    iprop((owns (c : Thread nD τ) arg2 fullShare X ∗ owns (c : Thread nD τ) arg3 fullShare L ∗ owns (c : Thread nD τ) arg4 fullShare T
            ∗ owns (c : Thread nD τ) arg5 fullShare A5 ∗ owns (c : Thread nD τ) arg6 fullShare A6 ∗ owns (c : Thread nD τ) arg7 fullShare A7)
          ∗ (iprop(owns (c : Thread nD τ) arg2 fullShare X ∗ owns (c : Thread nD τ) arg3 fullShare L ∗ owns (c : Thread nD τ) arg4 fullShare T
            ∗ owns (c : Thread nD τ) arg5 fullShare (cntStep X T k0_pay2) ∗ owns (c : Thread nD τ) arg6 fullShare (confStep X T k0_pay3)
            ∗ owns (c : Thread nD τ) arg7 fullShare (accStep X (labelRow i L) T k0_pay4)) -∗ K ⟨⟩))
      ⊢ wp frame (wpE (defs₀ (F := F)) Variants.none c none) E
          (cc0__ece_hist_kernel i arg2 harg2 arg3 harg3 arg4 harg4 arg5 harg5 arg6 harg6 arg7 harg7) K := by
  unfold owns
  iintro ⟨⟨⟨%f2, %h2, H2⟩, ⟨%f3, %h3, H3⟩, ⟨%f4, %h4, H4⟩, ⟨%f5, %h5, H5⟩, ⟨%f6, %h6, H6⟩, ⟨%f7, %h7, H7⟩⟩, Hk⟩
  rw [cc0__ece_hist_kernel_eq_skeleton]; unfold cc0__ece_hist_kernel_skel
  rw [k0_part1_eq_skeleton, k0_part2_eq_skeleton]; unfold k0_part1_skel k0_part2_skel
  unfold resetWord at hc
  sl_exec (disch := sl_exact hc)
  sl_step
  iapply Hk
  rw [readAt_all arg2.view f2 zero2, show body_reset.sl.v62 c arg5 = k0_pay2 (F := F) from View.readAt_writes_full _ _ _ _ _ _,
    show body_reset.sl.v69 c arg6 = k0_pay3 (F := F) from View.readAt_writes_full _ _ _ _ _ _,
    show body_reset.sl.v76 c arg7 = k0_pay4 (F := F) from View.readAt_writes_full _ _ _ _ _ _]
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  subst h2 h3 h4 h5 h6 h7
  isplitl [H5]; · iexists _; isplitr; rotate_left; · iexact H5
                  ipureintro; exact View.read_writes_full _ _ _ _ _
  isplitl [H6]; · iexists _; isplitr; rotate_left; · iexact H6
                  ipureintro; exact View.read_writes_full _ _ _ _ _
  iexists _; isplitr; rotate_left; · iexact H7
  ipureintro; exact View.read_writes_full _ _ _ _ _

end Cert.Ece
-- ==== Proof.HistRegion.lean ====
/-
  The histogram kernel's pipeline: what every staging buffer holds before and after each grid point, and the
  body's obligation at each point.
-/
module

public import proofs.«01_k».proof.Proof.HistBody
public import proofs.«01_k».proof.Proof.Gen.KernelIdeal.Regions

@[expose] public section

noncomputable section

namespace Cert.Ece

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F]

local notation "𝕄" => MT nD τ sig Unit (Elt F) ℕ (UR sig nD τ) ℕ

variable (V : Valuation τ sig (Elt F))

/-- The block of logits of point `t`. -/
def xBlk (t : Fin grid0.N) : Vec F S4000x100 .f32 := (win0_0.blk t).view.read (Elt F) (V main_arg0)

/-- The part of the labels' block of point `t` that lies inside the array. -/
def labPart (t : Fin grid0.N) : (win0_1.xblock (grid0.coords t)).Idx → Elt F .f32 := (win0_1.blk t).view.read (Elt F) (V main_v1)

/-- The labels' block of point `t`, filled out past the array's end with zeros. -/
def labBlk (t : Fin grid0.N) : Vec F S8x4000 .f32 :=
  win0_1.fill (grid0.coords t) (fun _ => Scalar.ofBits .f32 0#32) (labPart V t)

/-- The table of bin bounds as point `t` reads it. -/
def tabBlk (t : Fin grid0.N) : Vec F S2x15 .f32 := (win0_2.blk t).view.read (Elt F) (V main_cst)

/-- An accumulator after point `n`: started afresh from `z` at every 125th point, `step` applied at each. -/
def fold125 {A : Type} (step : ℕ → A → A) (z : A) : ℕ → A
  | 0 => step 0 z
  | n + 1 => step (n + 1) (if (n + 1) % 125 = 0 then z else fold125 step z n)

/-- At every 125th point an accumulator is one step from its start; -/
theorem fold125_reset {A : Type} (step : ℕ → A → A) (z : A) (n : ℕ) (h : n % 125 = 0) : fold125 step z n = step n z := by
  cases n with
  | zero => rfl
  | succ n => unfold fold125; rw [if_pos h]

/-- at every other point it is one step from the point before. -/
theorem fold125_acc {A : Type} (step : ℕ → A → A) (z : A) (n : ℕ) (h : ¬ n % 125 = 0) :
    fold125 step z n = step n (fold125 step z (n - 1)) := by
  cases n with
  | zero => exact absurd rfl h
  | succ n => rw [fold125, if_neg h]; rfl

/-- The step of the counts at point `n`. -/
def cntAt (n : ℕ) (A : Vec F S1x1x15 .f32) : Vec F S1x1x15 .f32 :=
  if h : n < grid0.N then cntStep (xBlk V ⟨n, h⟩) (tabBlk V ⟨n, h⟩) A else A
/-- The step of the sums of confidences at point `n`. -/
def confAt (n : ℕ) (A : Vec F S1x1x15 .f32) : Vec F S1x1x15 .f32 :=
  if h : n < grid0.N then confStep (xBlk V ⟨n, h⟩) (tabBlk V ⟨n, h⟩) A else A
/-- The step of the numbers of correct predictions at point `n`. -/
def accAt (n : ℕ) (A : Vec F S1x1x15 .f32) : Vec F S1x1x15 .f32 :=
  if h : n < grid0.N then accStep (xBlk V ⟨n, h⟩) (labelRow (grid0.coords ⟨n, h⟩) (labBlk V ⟨n, h⟩)) (tabBlk V ⟨n, h⟩) A else A

variable (c : Dev nD)

/-- The proof data of the histogram pipeline entered with the buffers at `V`. -/
def dat0 : Dat τ (Elt F) Unit ℕ (UR sig nD τ) ℕ cfg0 c where
  A w := V (Proc.devRef .tc (Pipeline.arrRef spec0 w))
  after w t := match w with
    | ⟨0, _⟩ => xBlk V t
    | ⟨1, _⟩ => labBlk V t
    | ⟨2, _⟩ => tabBlk V t
    | ⟨3, _⟩ => fold125 (cntAt V) k0_pay2 t.val
    | ⟨4, _⟩ => fold125 (confAt V) k0_pay3 t.val
    | ⟨5, _⟩ => fold125 (accAt V) k0_pay4 t.val
  Φ _ := Pipeline.scopedRest spec0 c
  q _ := fullShare
  owed _ := 0

/-- A point finds its block of logits in the first buffer, -/
theorem before0_0 (t : Fin cfg0.N) (d) : (dat0 V c).before (0 : Fin 6) t d = xBlk V t :=
  (dat0 V c).before_in_eq_fetched (0 : Fin 6) rfl (fun _ => rfl) (fun _ _ _ => rfl) (fun _ => rfl) t d

/-- its block of labels in the second, the rest of the buffer being whatever lay there, -/
theorem before0_1 (t : Fin cfg0.N) (d) : (dat0 V c).before (1 : Fin 6) t d = win0_1.fill (grid0.coords t) d (labPart V t) :=
  (dat0 V c).before_in_eq_fetched (1 : Fin 6) rfl (fun _ => rfl)
    (fun t t' h => by
      funext a
      exact congrArg (fun f : Fin 2 → ℕ => Pipeline.Clip.of (f a) (S8x4000.size a) (S250x4000.size a)) h)
    (fun t => win0_1.cut_fill _ _ _) t d

/-- and the table of bounds in the third. -/
theorem before0_2 (t : Fin cfg0.N) (d) : (dat0 V c).before (2 : Fin 6) t d = tabBlk V t :=
  (dat0 V c).before_in_eq_fetched (2 : Fin 6) rfl (fun _ => rfl) (fun _ _ _ => rfl) (fun _ => rfl) t d

/-- An accumulator written back only at the last of 125 points is not written back before a point that is not the first. -/
theorem flush_false {w : Fin 6} (hw : ∀ t : Fin cfg0.N, (cfg0.win w).flush t = true ↔ t.val % 125 = 124) (t : Fin cfg0.N)
    (ht : ¬ t.val % 125 = 0) : (cfg0.win w).flush ⟨t.val - 1, Nat.lt_of_le_of_lt (Nat.sub_le _ _) t.isLt⟩ = false := by
  rw [← Bool.not_eq_true, hw]; dsimp only; omega

/-- At a point that is not the first of 125 the count's buffer holds what the point before left, -/
theorem before0_3 (t : Fin cfg0.N) (ht : ¬ t.val % 125 = 0) (d) :
    (dat0 V c).before (3 : Fin 6) t d = fold125 (cntAt V) k0_pay2 (t.val - 1) :=
  (dat0 V c).before_out_kept (3 : Fin 6) rfl t (by omega) (flush_false flush0_3 t ht) (fun _ => rfl) (fun _ _ => rfl) d
/-- so does the buffer of the sums of confidences, -/
theorem before0_4 (t : Fin cfg0.N) (ht : ¬ t.val % 125 = 0) (d) :
    (dat0 V c).before (4 : Fin 6) t d = fold125 (confAt V) k0_pay3 (t.val - 1) :=
  (dat0 V c).before_out_kept (4 : Fin 6) rfl t (by omega) (flush_false flush0_4 t ht) (fun _ => rfl) (fun _ _ => rfl) d
/-- and so does the buffer of the correct predictions. -/
theorem before0_5 (t : Fin cfg0.N) (ht : ¬ t.val % 125 = 0) (d) :
    (dat0 V c).before (5 : Fin 6) t d = fold125 (accAt V) k0_pay4 (t.val - 1) :=
  (dat0 V c).before_out_kept (5 : Fin 6) rfl t (by omega) (flush_false flush0_5 t ht) (fun _ => rfl) (fun _ _ => rfl) d

/-- The inner coordinate of point `t` is `t` modulo 125. -/
theorem coords_inner : ∀ t : Fin grid0.N, (grid0.coords t 1).val = t.val % 125 := by decide +kernel

/-- The body clears the accumulators exactly at every 125th point. -/
theorem reset_iff : ∀ t : Fin grid0.N, resetWord (grid0.coords t) = 1#1 ↔ t.val % 125 = 0 := by decide +kernel

/-- The row a point reads lies inside the part of the labels' block that was fetched. -/
theorem row_inside : ∀ t : Fin grid0.N, k0_off1 (grid0.coords t) 0 < win0_1.xsize (grid0.coords t) 0 := by decide +kernel
/-- Every row of a labels' block is fetched at its whole length. -/
theorem row_whole : ∀ t : Fin grid0.N, win0_1.xsize (grid0.coords t) 1 = 4000 := by decide +kernel

/-- Every element of the row that a point reads was fetched. -/
theorem row_moved (t : Fin grid0.N) (x : S1x4000.Idx) : win0_1.moved (grid0.coords t)
    ((Rect.unit (s := S8x4000) (k0_off1 (grid0.coords t)) S1x4000.size (k0_off1_inb (grid0.coords t))).toLoadRect.idx x) = true := by
  rw [win0_1.moved_iff]
  intro a
  have h0 := row_inside t
  have h1 := row_whole t
  have hx : ∀ a, (x a).val < S1x4000.size a := fun a => (x a).isLt
  have hi : ∀ a, k0_off1 (grid0.coords t) a + S1x4000.size a ≤ S8x4000.size a := k0_off1_inb (grid0.coords t)
  show k0_off1 (grid0.coords t) a + 1 * (x a).val < win0_1.xsize (grid0.coords t) a
  have hxa := hx a
  have hia := hi a
  match a, hxa, hia with
  | ⟨0, _⟩, hxa, hia =>
    have hxa : (x 0).val < 1 := hxa
    show k0_off1 (grid0.coords t) 0 + 1 * (x 0).val < win0_1.xsize (grid0.coords t) 0
    omega
  | ⟨1, _⟩, hxa, hia =>
    have hxa : (x 1).val < 4000 := hxa
    have hia : k0_off1 (grid0.coords t) 1 + 4000 ≤ 4000 := hia
    show k0_off1 (grid0.coords t) 1 + 1 * (x 1).val < win0_1.xsize (grid0.coords t) 1
    omega

/-- What the body reads of the labels' buffer does not depend on what lies past the array's end. -/
theorem labelRow_fill (t : Fin grid0.N) (d : Vec F S8x4000 .f32) :
    labelRow (grid0.coords t) (win0_1.fill (grid0.coords t) d (labPart V t)) = labelRow (grid0.coords t) (labBlk V t) := by
  funext x
  unfold labelRow labBlk
  show win0_1.fill _ _ _ _ = win0_1.fill _ _ _ _
  unfold Pipeline.Window.fill
  rw [dif_pos (row_moved t x), dif_pos (row_moved t x)]

/-- The pipeline's call of the kernel at point `t`. -/
theorem row0 (t : Fin cfg0.N) : defs₀ (F := F) .tc cfg0.body (cfg0.bodyArgs t (cfg0.slots t)) = bodyAt0 (F := F) t := by
  unfold defs₀; rw [Defs.onTc_tc]

set_option maxHeartbeats 1000000 in
set_option maxRecDepth 8192 in
/-- The obligation of the body at every point: the inputs' buffers are handed back as found, and each accumulator's
    holds what `fold125` says. -/
theorem obligation0 : BodyObligationLoose (dat0 V c) (defs₀ (F := F)) Variants.none () Set.univ := fun t => by
  rw [bigSep_W0, bigSep_W0, row0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before0_0 V c t d0, before0_1 V c t d1, before0_2 V c t d2]
  by_cases ht : t.val % 125 = 0
  · iapply (body_reset (F := F) c Set.univ (grid0.coords t) (win0_0.stage (cfg0.slots t 0)) (hstage0_0 ((cfg0.slots t 0).cast nbuf0_0))
      (win0_1.stage (cfg0.slots t 1)) (hstage0_1 ((cfg0.slots t 1).cast nbuf0_1)) (win0_2.stage (cfg0.slots t 2)) (hstage0_2 ((cfg0.slots t 2).cast nbuf0_2))
      (win0_3.stage (cfg0.slots t 3)) (hstage0_3 ((cfg0.slots t 3).cast nbuf0_3)) (win0_4.stage (cfg0.slots t 4)) (hstage0_4 ((cfg0.slots t 4).cast nbuf0_4))
      (win0_5.stage (cfg0.slots t 5)) (hstage0_5 ((cfg0.slots t 5).cast nbuf0_5)) (xBlk V t) (win0_1.fill (grid0.coords t) d1 (labPart V t)) (tabBlk V t)
      _ _ _ ((reset_iff t).mpr ht) _)
    isplitl [H0 H1 H2 H3 H4 H5]
    · isplitl [H0]; · iexact H0
      isplitl [H1]; · iexact H1
      isplitl [H2]; · iexact H2
      isplitl [H3]; · iexact H3
      isplitl [H4]; · iexact H4
      iexact H5
    iintro ⟨H0, H1, H2, H3, H4, H5⟩
    isplitl [HΦ]; · iexact HΦ
    isplitl [Ho]; · iexact Ho
    isplitl [H0]; · iexact H0
    isplitl [H1]
    · iexists d1
      change _ ⊢ owns (c : Thread nD τ) (win0_1.stage (cfg0.slots t 1)) fullShare (win0_1.fill (grid0.coords t) d1 (win0_1.cut (grid0.coords t) (labBlk V t)))
      rw [show win0_1.cut (grid0.coords t) (labBlk V t) = labPart V t from win0_1.cut_fill _ _ _]
    isplitl [H2]; · iexact H2
    have e3 : (dat0 V c).after (3 : Fin 6) t = cntStep (xBlk V t) (tabBlk V t) k0_pay2 :=
      (fold125_reset (cntAt V) k0_pay2 t.val ht).trans (dif_pos t.isLt)
    have e4 : (dat0 V c).after (4 : Fin 6) t = confStep (xBlk V t) (tabBlk V t) k0_pay3 :=
      (fold125_reset (confAt V) k0_pay3 t.val ht).trans (dif_pos t.isLt)
    have e5 : (dat0 V c).after (5 : Fin 6) t = accStep (xBlk V t) (labelRow (grid0.coords t) (win0_1.fill (grid0.coords t) d1 (labPart V t))) (tabBlk V t) k0_pay4 :=
      (fold125_reset (accAt V) k0_pay4 t.val ht).trans ((dif_pos t.isLt).trans (by rw [labelRow_fill]))
    rw [e3, e4, e5]
    isplitl [H3]; · iexact H3
    isplitl [H4]; · iexact H4
    iexact H5
  · rw [before0_3 V c t ht d3, before0_4 V c t ht d4, before0_5 V c t ht d5]
    iapply (body_acc (F := F) c Set.univ (grid0.coords t) (win0_0.stage (cfg0.slots t 0)) (hstage0_0 ((cfg0.slots t 0).cast nbuf0_0))
      (win0_1.stage (cfg0.slots t 1)) (hstage0_1 ((cfg0.slots t 1).cast nbuf0_1)) (win0_2.stage (cfg0.slots t 2)) (hstage0_2 ((cfg0.slots t 2).cast nbuf0_2))
      (win0_3.stage (cfg0.slots t 3)) (hstage0_3 ((cfg0.slots t 3).cast nbuf0_3)) (win0_4.stage (cfg0.slots t 4)) (hstage0_4 ((cfg0.slots t 4).cast nbuf0_4))
      (win0_5.stage (cfg0.slots t 5)) (hstage0_5 ((cfg0.slots t 5).cast nbuf0_5)) (xBlk V t) (win0_1.fill (grid0.coords t) d1 (labPart V t)) (tabBlk V t)
      _ _ _ (fun h => ht ((reset_iff t).mp h)) _)
    isplitl [H0 H1 H2 H3 H4 H5]
    · isplitl [H0]; · iexact H0
      isplitl [H1]; · iexact H1
      isplitl [H2]; · iexact H2
      isplitl [H3]; · iexact H3
      isplitl [H4]; · iexact H4
      iexact H5
    iintro ⟨H0, H1, H2, H3, H4, H5⟩
    isplitl [HΦ]; · iexact HΦ
    isplitl [Ho]; · iexact Ho
    isplitl [H0]; · iexact H0
    isplitl [H1]
    · iexists d1
      change _ ⊢ owns (c : Thread nD τ) (win0_1.stage (cfg0.slots t 1)) fullShare (win0_1.fill (grid0.coords t) d1 (win0_1.cut (grid0.coords t) (labBlk V t)))
      rw [show win0_1.cut (grid0.coords t) (labBlk V t) = labPart V t from win0_1.cut_fill _ _ _]
    isplitl [H2]; · iexact H2
    have e3 : (dat0 V c).after (3 : Fin 6) t = cntStep (xBlk V t) (tabBlk V t) (fold125 (cntAt V) k0_pay2 (t.val - 1)) :=
      (fold125_acc (cntAt V) k0_pay2 t.val ht).trans (dif_pos t.isLt)
    have e4 : (dat0 V c).after (4 : Fin 6) t = confStep (xBlk V t) (tabBlk V t) (fold125 (confAt V) k0_pay3 (t.val - 1)) :=
      (fold125_acc (confAt V) k0_pay3 t.val ht).trans (dif_pos t.isLt)
    have e5 : (dat0 V c).after (5 : Fin 6) t = accStep (xBlk V t) (labelRow (grid0.coords t) (win0_1.fill (grid0.coords t) d1 (labPart V t))) (tabBlk V t) (fold125 (accAt V) k0_pay4 (t.val - 1)) :=
      (fold125_acc (accAt V) k0_pay4 t.val ht).trans ((dif_pos t.isLt).trans (by rw [labelRow_fill]))
    rw [e3, e4, e5]
    isplitl [H3]; · iexact H3
    isplitl [H4]; · iexact H4
    iexact H5

end Cert.Ece
-- ==== Proof.CombineRegion.lean ====
/-
  The combining kernel: its body as a triple and its one-point pipeline.

  The kernel reads the two partial histograms of each quantity, adds them, and stores the calibration error.
-/
module

public import proofs.«01_k».proof.Proof.HistRegion

@[expose] public section

noncomputable section

namespace Cert.Ece

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F]

local notation "𝕄" => MT nD τ sig Unit (Elt F) ℕ (UR sig nD τ) ℕ

section Body

variable (c : Dev nD) (E : Set ℕ)
  (arg0 : Memref sig .tc .vmem S2x1x15 .f32) (harg0 : arg0.IsWhole)
  (arg1 : Memref sig .tc .vmem S2x1x15 .f32) (harg1 : arg1.IsWhole)
  (arg2 : Memref sig .tc .vmem S2x1x15 .f32) (harg2 : arg2.IsWhole)
  (arg3 : Memref sig .tc .vmem S1x1 .f32) (harg3 : arg3.IsWhole)
  (A B C : Vec F S2x1x15 .f32) (D : Vec F S1x1 .f32)

include harg0 harg1 harg2 harg3 in
set_option maxHeartbeats 4000000 in
/-- The combining kernel stores `k1_pay1` of its three inputs and leaves them unchanged. -/
theorem body_combine (K : PUnit → sProp 𝕄) :
    iprop((owns (c : Thread nD τ) arg0 fullShare A ∗ owns (c : Thread nD τ) arg1 fullShare B ∗ owns (c : Thread nD τ) arg2 fullShare C
            ∗ owns (c : Thread nD τ) arg3 fullShare D)
          ∗ (iprop(owns (c : Thread nD τ) arg0 fullShare A ∗ owns (c : Thread nD τ) arg1 fullShare B ∗ owns (c : Thread nD τ) arg2 fullShare C
            ∗ owns (c : Thread nD τ) arg3 fullShare (k1_pay1 A B C)) -∗ K ⟨⟩))
      ⊢ wp frame (wpE (defs₀ (F := F)) Variants.none c none) E
          (cc1__ece_combine_kernel arg0 harg0 arg1 harg1 arg2 harg2 arg3 harg3) K := by
  unfold owns
  iintro ⟨⟨⟨%f0, %h0, H0⟩, ⟨%f1, %h1, H1⟩, ⟨%f2, %h2, H2⟩, ⟨%f3, %h3, H3⟩⟩, Hk⟩
  rw [cc1__ece_combine_kernel_eq_skeleton]; unfold cc1__ece_combine_kernel_skel
  sl_exec
  sl_step
  iapply Hk
  rw [readAt_all arg0.view f0 zero3, readAt_all arg1.view f1 zero3, readAt_all arg2.view f2 zero3]
  subst h0 h1 h2
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; rotate_left; · iexact H3
  ipureintro; exact View.read_writes_full _ _ _ _ _

end Body

variable (V : Valuation τ sig (Elt F)) (c : Dev nD)

/-- The partial counts as the kernel's one point reads them; -/
def cntIn (t : Fin grid1.N) : Vec F S2x1x15 .f32 := (win1_0.blk t).view.read (Elt F) (V main_v2_0)
/-- the partial sums of confidences; -/
def confIn (t : Fin grid1.N) : Vec F S2x1x15 .f32 := (win1_1.blk t).view.read (Elt F) (V main_v2_1)
/-- the partial numbers of correct predictions. -/
def accIn (t : Fin grid1.N) : Vec F S2x1x15 .f32 := (win1_2.blk t).view.read (Elt F) (V main_v2_2)

/-- The proof data of the combining pipeline entered with the buffers at `V`. -/
def dat1 : Dat τ (Elt F) Unit ℕ (UR sig nD τ) ℕ cfg1 c where
  A w := V (Proc.devRef .tc (Pipeline.arrRef spec1 w))
  after w t := match w with
    | ⟨0, _⟩ => cntIn V t
    | ⟨1, _⟩ => confIn V t
    | ⟨2, _⟩ => accIn V t
    | ⟨3, _⟩ => k1_pay1 (cntIn V t) (confIn V t) (accIn V t)
  Φ _ := Pipeline.scopedRest spec1 c
  q _ := fullShare
  owed _ := 0

/-- The kernel finds the partial counts in its first buffer, -/
theorem before1_0 (t : Fin cfg1.N) (d) : (dat1 V c).before (0 : Fin 4) t d = cntIn V t :=
  (dat1 V c).before_in_eq_fetched (0 : Fin 4) rfl (fun _ => rfl) (fun _ _ _ => rfl) (fun _ => rfl) t d
/-- the partial sums of confidences in its second, -/
theorem before1_1 (t : Fin cfg1.N) (d) : (dat1 V c).before (1 : Fin 4) t d = confIn V t :=
  (dat1 V c).before_in_eq_fetched (1 : Fin 4) rfl (fun _ => rfl) (fun _ _ _ => rfl) (fun _ => rfl) t d
/-- and the partial numbers of correct predictions in its third. -/
theorem before1_2 (t : Fin cfg1.N) (d) : (dat1 V c).before (2 : Fin 4) t d = accIn V t :=
  (dat1 V c).before_in_eq_fetched (2 : Fin 4) rfl (fun _ => rfl) (fun _ _ _ => rfl) (fun _ => rfl) t d

/-- The pipeline's call of the kernel at its point. -/
theorem row1 (t : Fin cfg1.N) : defs₀ (F := F) .tc cfg1.body (cfg1.bodyArgs t (cfg1.slots t)) = bodyAt1 (F := F) t := by
  unfold defs₀; rw [Defs.onTc_tc]

set_option maxHeartbeats 1000000 in
set_option maxRecDepth 8192 in
/-- The obligation of the combining kernel's body. -/
theorem obligation1 : BodyObligationLoose (dat1 V c) (defs₀ (F := F)) Variants.none () Set.univ := fun t => by
  rw [bigSep_W1, bigSep_W1, row1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [before1_0 V c t d0, before1_1 V c t d1, before1_2 V c t d2]
  iapply (body_combine (F := F) c Set.univ (win1_0.stage (cfg1.slots t 0)) (hstage1_0 0) (win1_1.stage (cfg1.slots t 1)) (hstage1_1 0)
    (win1_2.stage (cfg1.slots t 2)) (hstage1_2 0) (win1_3.stage (cfg1.slots t 3)) (hstage1_3 0) (cntIn V t) (confIn V t) (accIn V t) _ _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.Ece
-- ==== Proof.Run.lean ====
/-
  The run of the kernel's @main: two host stretches and two pipelines in order, from any memory.

  The buffers at the end are named: the host operations' results, then each pipeline's arrays after its last
  write-back, then the last host operation's result.
-/
module

public import proofs.«01_k».proof.Proof.CombineRegion
public import Idealize.ShloMosaic.Lib.Pipeline.RegionArraysS

@[expose] public section

noncomputable section

namespace Cert.Ece

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers when the histogram pipeline starts: the first host stretch has run. -/
def W1 (c : Dev nD) : Valuation τ sig (Elt F) := StableHlo.after hostOps0 (V0 m c)
/-- The buffers when the combining pipeline starts. -/
def W2 (c : Dev nD) : Valuation τ sig (Elt F) := Pipeline.afterRegion (dat0 (W1 m c) c) (W1 m c)
/-- The buffers when the combining pipeline has ended. -/
def W3 (c : Dev nD) : Valuation τ sig (Elt F) := Pipeline.afterRegion (dat1 (W2 m c) c) (W2 m c)
/-- The buffers at the end. -/
def W4 (c : Dev nD) : Valuation τ sig (Elt F) := StableHlo.after hostOps2 (W3 m c)

/-- The proof data of both pipelines. -/
def pdats : (p : Fin 2) → (c : Dev nD) → Dat τ (Elt F) Unit ℕ (UR sig nD τ) ℕ (cfgs p) c
  | 0 => fun c => dat0 (W1 m c) c
  | 1 => fun c => dat1 (W2 m c) c
  | ⟨_ + 2, h⟩ => absurd h (Nat.not_lt.2 (Nat.le_add_left _ _))

/-- Every TensorCore semaphore has the one index, at level zero. -/
def Lx (g : GSem nD τ sig) : Finset Unit := if g.1.2 = .tc then {()} else ∅

/-- No level is exceeded: the launch owes nothing. -/
theorem levelCut (p : Fin 2) : Pipeline.LevelCut (pcfgs (F := F)) adm () Lx (fun _ _ => 0) p (fun _ : Dev nD => (0 : CellTallies nD τ sig Unit)) (fun _ => (0 : ℕ)) :=
  ⟨fun _ _ _ => by unfold Lx; rw [if_pos rfl]; exact Finset.mem_singleton_self _, fun _ _ _ => le_refl _,
    fun _ _ _ h => absurd h (Nat.lt_irrefl 0)⟩

/-- A region's scoped rest is taken in unchanged -/
theorem rest_in {gr W : ℕ} (spec : Fin W → Pipeline.WinSpec sig gr) (c : Dev nD) :
    iprop(Pipeline.scopedRest (Ix := Unit) (Name := ℕ) (U := UR sig nD τ) (Lvl := ℕ) (Val := Elt F) spec c ∗ emp) ⊢ (Pipeline.scopedRest spec c : sProp 𝕄) := by
  iintro ⟨H, -⟩; iexact H
/-- and given back unchanged. -/
theorem rest_out {gr W : ℕ} (spec : Fin W → Pipeline.WinSpec sig gr) (c : Dev nD) :
    (Pipeline.scopedRest spec c : sProp 𝕄) ⊢ iprop(Pipeline.scopedRest (Ix := Unit) (Name := ℕ) (U := UR sig nD τ) (Lvl := ℕ) (Val := Elt F) spec c ∗ emp) := by
  iintro H; isplitl [H]
  · iexact H
  · iempintro

/-- The histogram pipeline as a segment of the run. -/
def R0 : RegionSeg (pcfgs (F := F)) adm (pdats m) () defs₀ Variants.none Lx (fun _ _ => (0 : ℕ)) 0 :=
  RegionSeg.ofHeldIn (pcfgs (F := F)) adm (pdats m) () defs₀ Variants.none Lx (fun _ _ => 0) 0 (fun _ => 0)
    (Pipeline.ucRefs τ sig) (fun _ => iprop(emp)) (fun _ => iprop(emp)) launch0.toP rfl
    (fun c => obligation0 (W1 m c) c) (fun _ _ => rfl) (fun _ => rfl)
    (fun c => (dat0 (W1 m c) c).share_full fun _ => rfl)
    (fun c => rest_in spec0 c) (fun c => rest_out spec0 c)
    (fun _ => 0) (levelCut 0) (fun _ => iprop(emp)) (W1 m) (fun _ _ => rfl)

/-- The combining pipeline as a segment of the run. -/
def R1 : RegionSeg (pcfgs (F := F)) adm (pdats m) () defs₀ Variants.none Lx (fun _ _ => (0 : ℕ)) 1 :=
  RegionSeg.ofHeldIn (pcfgs (F := F)) adm (pdats m) () defs₀ Variants.none Lx (fun _ _ => 0) 1 (fun _ => 0)
    (Pipeline.ucRefs τ sig) (fun _ => iprop(emp)) (fun _ => iprop(emp)) launch1.toP rfl
    (fun c => obligation1 (W2 m c) c) (fun _ _ => rfl) (fun _ => rfl)
    (fun c => (dat1 (W2 m c) c).share_full fun _ => rfl)
    (fun c => rest_in spec1 c) (fun c => rest_out spec1 c)
    (fun _ => 0) (levelCut 1) (fun _ => iprop(emp)) (W2 m) (fun _ _ => rfl)

/-- What rides beside the buffers: the core owes nothing. -/
def Er (c : Dev nD) : sProp 𝕄 := iprop((∃ Wd, owes (c : Thread nD τ) (0 : CellTallies nD τ sig Unit) Wd) ∗ emp ∗ emp)

/-- The first host stretch as a segment. -/
def H0 : HostSeg (Ix := Unit) (Name := ℕ) (U := UR sig nD τ) (Lvl := ℕ) (pcfgs (F := F)) defs₀ Variants.none Lx (fun _ _ => 0) :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Er
/-- The last host stretch as a segment. -/
def H3 : HostSeg (Ix := Unit) (Name := ℕ) (U := UR sig nD τ) (Lvl := ℕ) (pcfgs (F := F)) defs₀ Variants.none Lx (fun _ _ => 0) :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) Er

/-- @main's items as segments. -/
abbrev items (_ : Dev nD) : List (Seg (pcfgs (F := F)) adm (pdats m) () defs₀ Variants.none Lx (fun _ _ => (0 : ℕ))) :=
  [.host (H0 m), .region (R0 m), .region (R1 m), .host (H3 m)]

/-- The histogram pipeline's arrays are unscoped buffers, -/
theorem arrs0 : Pipeline.arrRefs (τ := τ) (pcfgs (F := F) 0).spec ⊆ Pipeline.ucRefs τ sig := Pipeline.arrRefs_sub_ucRefs spec0 winFacts0.arr_unscoped
/-- and so are the combining pipeline's. -/
theorem arrs1 : Pipeline.arrRefs (τ := τ) (pcfgs (F := F) 1).spec ⊆ Pipeline.ucRefs τ sig := Pipeline.arrRefs_sub_ucRefs spec1 winFacts1.arr_unscoped

/-- The buffers after the histogram pipeline, by the family of proof data; -/
theorem W2_eq (c : Dev nD) : W2 m c = Pipeline.afterRegion (pdats m 0 c) (W1 m c) := rfl
/-- the buffers after the combining pipeline likewise. -/
theorem W3_eq (c : Dev nD) : W3 m c = Pipeline.afterRegion (pdats m 1 c) (W2 m c) := rfl

/-- The histogram pipeline starts where the first host stretch ends, -/
theorem pre0 (c : Dev nD) : (iprop(StableHlo.held (c.tc : Thread nD τ) (Pipeline.ucRefs τ sig) (W1 m c) ∗ Er c) : sProp 𝕄) ⊢ (R0 m).pre c := by
  unfold R0 Er
  exact RegionSeg.ofHeldIn_pre (pcs := pcfgs (F := F)) (a := adm) (pdats := pdats m) (ι := ()) (defs₀ := defs₀) (𝒱₀ := Variants.none) (L := Lx)
    (lv := fun _ _ => (0 : ℕ)) (p := 0) (D := fun _ => 0) (X := fun _ => iprop(emp)) (Y := fun _ => iprop(emp)) (R := fun _ => iprop(emp)) (W := W1 m) arrs0 c
/-- and ends where the combining pipeline starts; -/
theorem post0 (c : Dev nD) : (R0 m).post c ⊢ (iprop(StableHlo.held (c.tc : Thread nD τ) (Pipeline.ucRefs τ sig) (W2 m c) ∗ Er c) : sProp 𝕄) := by
  rw [W2_eq]
  unfold R0 Er
  exact RegionSeg.ofHeldIn_post (pcs := pcfgs (F := F)) (a := adm) (pdats := pdats m) (ι := ()) (defs₀ := defs₀) (𝒱₀ := Variants.none) (L := Lx)
    (lv := fun _ _ => (0 : ℕ)) (p := 0) (D := fun _ => 0) (X := fun _ => iprop(emp)) (Y := fun _ => iprop(emp)) (R := fun _ => iprop(emp)) (W := W1 m) arrs0 c
/-- where the combining pipeline starts, -/
theorem pre1 (c : Dev nD) : (iprop(StableHlo.held (c.tc : Thread nD τ) (Pipeline.ucRefs τ sig) (W2 m c) ∗ Er c) : sProp 𝕄) ⊢ (R1 m).pre c := by
  unfold R1 Er
  exact RegionSeg.ofHeldIn_pre (pcs := pcfgs (F := F)) (a := adm) (pdats := pdats m) (ι := ()) (defs₀ := defs₀) (𝒱₀ := Variants.none) (L := Lx)
    (lv := fun _ _ => (0 : ℕ)) (p := 1) (D := fun _ => 0) (X := fun _ => iprop(emp)) (Y := fun _ => iprop(emp)) (R := fun _ => iprop(emp)) (W := W2 m) arrs1 c
/-- which ends where the last host stretch starts. -/
theorem post1 (c : Dev nD) : (R1 m).post c ⊢ (iprop(StableHlo.held (c.tc : Thread nD τ) (Pipeline.ucRefs τ sig) (W3 m c) ∗ Er c) : sProp 𝕄) := by
  rw [W3_eq]
  unfold R1 Er
  exact RegionSeg.ofHeldIn_post (pcs := pcfgs (F := F)) (a := adm) (pdats := pdats m) (ι := ()) (defs₀ := defs₀) (𝒱₀ := Variants.none) (L := Lx)
    (lv := fun _ _ => (0 : ℕ)) (p := 1) (D := fun _ => 0) (X := fun _ => iprop(emp)) (Y := fun _ => iprop(emp)) (R := fun _ => iprop(emp)) (W := W2 m) arrs1 c
/-- What rides beside the buffers says that the core owes nothing. -/
theorem er_out (c : Dev nD) : (Er c : sProp 𝕄) ⊢ iprop(∃ W, owes (c : Thread nD τ) (0 : CellTallies nD τ sig Unit) W) := by
  unfold Er; iintro ⟨H, -⟩; iexact H

/-- The embedding of the launch's resources. -/
abbrev EP : Emb (UR sig nD τ) (MT nD τ sig Unit (Elt F) ℕ (UR sig nD τ) ℕ) := emb₁

set_option backward.isDefEq.respectTransparency.types false in
set_option maxHeartbeats 1000000 in
/-- From any memory with zero counters, every weakly fair execution of @main terminates; every final state holds
    each unscoped buffer at `W4` and every semaphore counter at zero. -/
theorem run_main (ρ : Dev nD → PrngReg) :
    θ_run defs (onTc (τ := τ) (main (F := F))) ⟨m, fun _ => 0, ρ⟩ (fun r =>
      (∀ (c : Dev nD) (r' : Ref sig .tc), r'.isScoped = false → r.2.mem ((c.tc : Thread nD τ).loc r') = W4 m c (Proc.devRef .tc r'))
      ∧ r.2.sem = fun _ => 0) := by
  refine Pipeline.θ_run_regions_kit_dev_sems (pcfgs (F := F)) adm (pdats m) () cellOf_inj EP defs₀ Variants.none Lx (fun _ _ => 0) m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (fun _ => 0)
    (fun g h => by unfold Lx; rw [if_neg h]) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ Er c))
    (Tₙ := fun c => StableHlo.held (c : Thread nD τ) (Pipeline.ucRefs τ sig) (W4 m c))
    (hch := fun c => ⟨.rfl, pre0 m c, (post0 m c).trans (pre1 m c), post1 m c, sep_mono .rfl (er_out c)⟩)
    (hinit := ?_)
    (QY := fun c s => ∀ r' : Ref sig .tc, r'.isScoped = false → s.mem ((c.tc : Thread nD τ).loc r') = W4 m c (Proc.devRef .tc r'))
    (hfin := fun c s' => ?_) (hQ := fun _ h hz => ⟨h, funext fun g => hz g (.inr (regions_no_unscoped g.2))⟩)
  · iintro Hu
    imodintro
    isplitl [Hu]
    · iapply (show ownU (initOf (Pipeline.cells cfgs cellOf_inj) (Pipeline.launchToks cfgs cellOf_inj))
        ⊢ (BI.own (EP.toFun (initOf (Pipeline.cells (Pipeline.pin (pcfgs (F := F)) adm) cellOf_inj) (Pipeline.launchToks (Pipeline.pin (pcfgs (F := F)) adm) cellOf_inj))) : sProp 𝕄)
        from BI.Entails.refl _)
      iexact Hu
    · iapply (show (iprop(emp) : sProp 𝕄) ⊢ bigSep Finset.univ (fun _ : Dev nD => iprop(emp)) from by
          have e : (bigSep Finset.univ fun _ : Dev nD => (iprop(emp) : sProp 𝕄)) = iprop(emp) := bigSep_emp_const _
          rw [e])
      iempintro
  · -- the launch
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ Er c) : sProp 𝕄) := by
      exact bigSep_mono fun c _ => by
        rw [← Pipeline.unscopedBufs_held (Ix := Unit) (Name := ℕ) (U := UR sig nD τ) (Lvl := ℕ) c (V0 m c)]
        show iprop(_ ∗ _ ∗ owes (c.tc : Thread nD τ) (0 : CellTallies nD τ sig Unit) ∅ ∗ _) ⊢ iprop(_ ∗ _)
        iintro ⟨H, -, Ho, -⟩
        isplitl [H]; · iexact H
        unfold Er
        isplitl [Ho]; · iexists _; iexact Ho
        isplitr <;> iempintro
    iintro ⟨H, -⟩
    imodintro
    iapply hsplit
    iexact H
  · -- the end: each buffer read off the last valuation
    unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact fun r' hr => h (Proc.devRef .tc r') (Finset.mem_filter.mpr ⟨StableHlo.devRef_mem_tcRefs r', fun e => Bool.false_ne_true (hr.symm.trans e)⟩)
    · iexact HSI

end Cert.Ece
-- ==== Proof.Same.lean ====
module

public import proofs.«01_k».proof.Proof.Gen.Kernel
public import proofs.«01_k».proof.Proof.Gen.KernelIdeal
public import Idealize.ShloMosaic.Lib.Pipeline.Regions

@[expose] public section

noncomputable section

namespace Cert.Proof

open Idealize.ShloMosaic Idealize.SL.Sem

variable {F : FTy → Type} [FloatOps F]

/-- The printed kernel and the idealised kernel are the same text: at one float carrier their frame statements are one statement. -/
theorem same_frame : (∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)) =
    (∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) := by chain_rfl

end Cert.Proof
-- ==== Proof.Frame.lean ====
module

public import proofs.«01_k».proof.Proof.Run
public import proofs.«01_k».proof.Proof.Same
public import Idealize.ShloMosaic.Lib.StableHlo.RunHlo

@[expose] public section

noncomputable section

namespace Cert.Ece

open Idealize.ShloMosaic Idealize.SL Idealize.SL.Sem TcCoe
open Cert.KernelIdeal Cert.KernelIdeal.Gen

variable {F : FTy → Type} [FloatOps F] (m : (ℓ : Loc nD τ sig) → Buf (Elt F) ℓ)

/-- A buffer that neither host stretch writes and no pipeline gives out is, at the end, as launched. -/
theorem W4_kept (c : Dev nD) (r : Ref sig .tc) (h0 : r ∉ hostOps0_W) (h2 : r ∉ hostOps2_W)
    (hr0 : ∀ w, Pipeline.arrRef spec0 w = r → (cfg0.win w).isOut = false)
    (hr1 : ∀ w, Pipeline.arrRef spec1 w = r → (cfg1.win w).isOut = false) :
    W4 m c (Proc.devRef .tc r) = m ((c : Thread nD τ).loc r) :=
  (StableHlo.after_of_writes_sub hostOps2 (W3 m c) hostOps2_writes h2).trans <|
    (Pipeline.afterRegion_keeps (dat1 (W2 m c) c) (W2 m c) winFacts1.arr_inj (fun _ => rfl) r hr1).trans <|
    (Pipeline.afterRegion_keeps (dat0 (W1 m c) c) (W1 m c) winFacts0.arr_inj (fun _ => rfl) r hr0).trans <|
    (StableHlo.after_of_writes_sub hostOps0 (V0 m c) hostOps0_writes h0).trans rfl

/-- The kernel ends with both arguments as launched and every counter at zero, whatever the float carrier. -/
theorem frame_kernel (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run_main m g) fun r h => ⟨fun c =>
    ⟨(h.1 c main_arg0 rfl).trans (W4_kept m c main_arg0 (by decide) (by decide) (by decide) (by decide)),
      (h.1 c main_arg1 rfl).trans (W4_kept m c main_arg1 (by decide) (by decide) (by decide) (by decide))⟩, h.2⟩

end Cert.Ece
-- ==== Proof.RefRun.lean ====
module

public import proofs.«01_k».proof.Proof.Gen.ReferenceIdeal
public import Idealize.ShloMosaic.Lib.Pipeline.Regions
public import Idealize.ShloMosaic.Lib.StableHlo.RunHlo
public import Idealize.ShloMosaic.Lib.StableHlo.RunRead

@[expose] public section

noncomputable section

namespace Cert.EceRef

open Idealize.ShloMosaic Idealize.ShloMosaic.StableHlo Idealize.SL.Sem TcCoe
open Cert.ReferenceIdeal
open Cert.ReferenceIdeal.Facts₀ Cert.ReferenceIdeal.Facts

variable {F : FTy → Type} [FloatOps F]

/-! ## One bin's buffers -/

/-- The type of the `k`-th buffer of a bin: scalars but for the ten vectors over the rows, three masks, and the two
    accumulators of one entry. -/
def binTy : Fin 32 → BufTy := ![⟨S_, .f32⟩, ⟨S1000000, .f32⟩, ⟨S1000000, .i1⟩, ⟨S_, .f32⟩, ⟨S1000000, .f32⟩, ⟨S1000000, .i1⟩,
  ⟨S1000000, .i1⟩, ⟨S1000000, .f32⟩, ⟨S_, .f32⟩, ⟨S_, .f32⟩, ⟨S_, .f32⟩, ⟨S_, .f32⟩, ⟨S_, .f32⟩, ⟨S_, .f32⟩, ⟨S1000000, .f32⟩,
  ⟨S_, .f32⟩, ⟨S_, .f32⟩, ⟨S_, .f32⟩, ⟨S1000000, .f32⟩, ⟨S_, .f32⟩, ⟨S_, .f32⟩, ⟨S_, .f32⟩, ⟨S_, .f32⟩, ⟨S_, .f32⟩, ⟨S_, .f32⟩,
  ⟨S_, .f32⟩, ⟨S_, .i1⟩, ⟨S_, .f32⟩, ⟨S_, .f32⟩, ⟨S_, .f32⟩, ⟨S1, .f32⟩, ⟨S1, .f32⟩]

/-- Buffer `n` of the reference's HBM. -/
abbrev hbmRef (n : ℕ) (h : n < 507) : Ref sig .tc := ⟨.hbm, ⟨n, h⟩, rfl⟩

/-- Buffers of different numbers differ. -/
theorem hbmRef_ne {n k : ℕ} {hn : n < 507} {hk : k < 507} (h : n ≠ k) : hbmRef n hn ≠ hbmRef k hk := by
  intro e; injection e with _ h2; exact h (Fin.mk.inj h2)

/-- The buffers of every bin are among the program's. -/
theorem bin_lt (i : Fin 15) (k : Fin 32) : 27 + 32 * i.val + k.val < 507 := by omega

/-- Buffer `k` of bin `i`. -/
abbrev binRef (i : Fin 15) (k : Fin 32) : Ref sig .tc := hbmRef (27 + 32 * i.val + k.val) (bin_lt i k)

/-- Every bin's buffers have the types of the first bin's. -/
theorem binRef_ty : ∀ (i : Fin 15) (k : Fin 32), (binRef i k).ty = binTy k := by
  intro i k; fin_cases i <;> fin_cases k <;> rfl
/-- No bin's buffer is scoped. -/
theorem binRef_unscoped : ∀ (i : Fin 15) (k : Fin 32), (binRef i k).isScoped = false := by
  intro i k; rfl

/-- Buffer `k` of bin `i` as a reference of its type. -/
def bt (i : Fin 15) (k : Fin 32) {T : BufTy} (h : binTy k = T := by rfl) : TRef sig T :=
  ⟨binRef i k, (binRef_ty i k).trans h, fun e => Space.noConfusion e, binRef_unscoped i k⟩

/-- Every accumulator is a vector of one number. -/
theorem accRef_ty : ∀ n : Fin 16, (hbmRef (26 + 32 * n.val) (by omega)).ty = ⟨S1, .f32⟩ := by
  intro n; fin_cases n <;> rfl

/-- The accumulator before bin `n`. -/
def accT (n : Fin 16) : TRef sig ⟨S1, .f32⟩ :=
  ⟨hbmRef (26 + 32 * n.val) (by omega), accRef_ty n, fun e => Space.noConfusion e, rfl⟩

/-- Typed references to one buffer are equal. -/
theorem tref_ext {T : BufTy} {x y : TRef sig T} (h : x.ref = y.ref) : x = y := by cases x; cases y; cases h; rfl

/-- The accumulator after bin `i` is the accumulator before the next. -/
theorem accT_succ (i : Fin 15) : bt i 31 = accT i.succ :=
  tref_ext (by
    have e : 27 + 32 * i.val + 31 = 26 + 32 * (i.val + 1) := by omega
    show hbmRef (27 + 32 * i.val + 31) _ = hbmRef (26 + 32 * (i.val + 1)) _
    simp only [e])

/-- The references to the confidences and to the accuracies. -/
abbrev confT : TRef sig ⟨S1000000, .f32⟩ := .of main_v11
@[inherit_doc confT]
abbrev corrT : TRef sig ⟨S1000000, .f32⟩ := .of main_v14

/-- The bounds of the bins, as words. -/
def bound : Fin 16 → BitVec 32 := ![0x00000000#32, 0x3D888889#32, 0x3E088889#32, 0x3E4CCCCD#32, 0x3E888889#32, 0x3EAAAAAB#32,
  0x3ECCCCCD#32, 0x3EEEEEEF#32, 0x3F088889#32, 0x3F19999A#32, 0x3F2AAAAB#32, 0x3F3BBBBC#32, 0x3F4CCCCD#32, 0x3F5DDDDE#32,
  0x3F6EEEEF#32, 0x3F800000#32]

/-- One bin's operations. -/
def binOps (i : Fin 15) : List (HloOp τ sig (Elt F)) := [
  TRef.nullary (bt (T := ⟨S_, .f32⟩) i 0) (constant S_ .f32 (bound i.castSucc)),
  TRef.unary (bt (T := ⟨S_, .f32⟩) i 0) (bt (T := ⟨S1000000, .f32⟩) i 1) (broadcastInDim S1000000 ![] bcast_S_S1000000),
  TRef.binary confT (bt (T := ⟨S1000000, .f32⟩) i 1) (bt (T := ⟨S1000000, .i1⟩) i 2) (cmpf .ogt),
  TRef.nullary (bt (T := ⟨S_, .f32⟩) i 3) (constant S_ .f32 (bound i.succ)),
  TRef.unary (bt (T := ⟨S_, .f32⟩) i 3) (bt (T := ⟨S1000000, .f32⟩) i 4) (broadcastInDim S1000000 ![] bcast_S_S1000000),
  TRef.binary confT (bt (T := ⟨S1000000, .f32⟩) i 4) (bt (T := ⟨S1000000, .i1⟩) i 5) (cmpf .ole),
  TRef.binary (bt (T := ⟨S1000000, .i1⟩) i 2) (bt (T := ⟨S1000000, .i1⟩) i 5) (bt (T := ⟨S1000000, .i1⟩) i 6) andi,
  TRef.unary (bt (T := ⟨S1000000, .i1⟩) i 6) (bt (T := ⟨S1000000, .f32⟩) i 7) (uitofp .f32),
  TRef.nullary (bt (T := ⟨S_, .f32⟩) i 8) (constant S_ .f32 0x00000000#32),
  TRef.binary (bt (T := ⟨S1000000, .f32⟩) i 7) (bt (T := ⟨S_, .f32⟩) i 8) (bt (T := ⟨S_, .f32⟩) i 9) (fun x v => Host.reduceAdd x v reducesTo_S1000000_S_d0 h_S_),
  TRef.nullary (bt (T := ⟨S_, .f32⟩) i 10) (constant S_ .f32 0x49742400#32),
  TRef.binary (bt (T := ⟨S_, .f32⟩) i 9) (bt (T := ⟨S_, .f32⟩) i 10) (bt (T := ⟨S_, .f32⟩) i 11) Host.divf,
  TRef.nullary (bt (T := ⟨S_, .f32⟩) i 12) (constant S_ .f32 0x3F800000#32),
  TRef.binary (bt (T := ⟨S_, .f32⟩) i 9) (bt (T := ⟨S_, .f32⟩) i 12) (bt (T := ⟨S_, .f32⟩) i 13) maximumf,
  TRef.binary corrT (bt (T := ⟨S1000000, .f32⟩) i 7) (bt (T := ⟨S1000000, .f32⟩) i 14) mulf,
  TRef.nullary (bt (T := ⟨S_, .f32⟩) i 15) (constant S_ .f32 0x00000000#32),
  TRef.binary (bt (T := ⟨S1000000, .f32⟩) i 14) (bt (T := ⟨S_, .f32⟩) i 15) (bt (T := ⟨S_, .f32⟩) i 16) (fun x v => Host.reduceAdd x v reducesTo_S1000000_S_d0 h_S_),
  TRef.binary (bt (T := ⟨S_, .f32⟩) i 16) (bt (T := ⟨S_, .f32⟩) i 13) (bt (T := ⟨S_, .f32⟩) i 17) Host.divf,
  TRef.binary confT (bt (T := ⟨S1000000, .f32⟩) i 7) (bt (T := ⟨S1000000, .f32⟩) i 18) mulf,
  TRef.nullary (bt (T := ⟨S_, .f32⟩) i 19) (constant S_ .f32 0x00000000#32),
  TRef.binary (bt (T := ⟨S1000000, .f32⟩) i 18) (bt (T := ⟨S_, .f32⟩) i 19) (bt (T := ⟨S_, .f32⟩) i 20) (fun x v => Host.reduceAdd x v reducesTo_S1000000_S_d0 h_S_),
  TRef.binary (bt (T := ⟨S_, .f32⟩) i 20) (bt (T := ⟨S_, .f32⟩) i 13) (bt (T := ⟨S_, .f32⟩) i 21) Host.divf,
  TRef.binary (bt (T := ⟨S_, .f32⟩) i 21) (bt (T := ⟨S_, .f32⟩) i 17) (bt (T := ⟨S_, .f32⟩) i 22) subf,
  TRef.unary (bt (T := ⟨S_, .f32⟩) i 22) (bt (T := ⟨S_, .f32⟩) i 23) Host.absf,
  TRef.binary (bt (T := ⟨S_, .f32⟩) i 23) (bt (T := ⟨S_, .f32⟩) i 11) (bt (T := ⟨S_, .f32⟩) i 24) mulf,
  TRef.nullary (bt (T := ⟨S_, .f32⟩) i 25) (constant S_ .f32 0x00000000#32),
  TRef.binary (bt (T := ⟨S_, .f32⟩) i 9) (bt (T := ⟨S_, .f32⟩) i 25) (bt (T := ⟨S_, .i1⟩) i 26) (cmpf .ogt),
  TRef.nullary (bt (T := ⟨S_, .f32⟩) i 27) (constant S_ .f32 0x00000000#32),
  TRef.unary (bt (T := ⟨S_, .f32⟩) i 27) (bt (T := ⟨S_, .f32⟩) i 28) id,
  TRef.ternary (bt (T := ⟨S_, .i1⟩) i 26) (bt (T := ⟨S_, .f32⟩) i 24) (bt (T := ⟨S_, .f32⟩) i 28) (bt (T := ⟨S_, .f32⟩) i 29) select,
  TRef.unary (bt (T := ⟨S_, .f32⟩) i 29) (bt (T := ⟨S1, .f32⟩) i 30) (broadcastInDim S1 ![] bcast_S_S1),
  TRef.binary (accT i.castSucc) (bt (T := ⟨S1, .f32⟩) i 30) (bt (T := ⟨S1, .f32⟩) i 31) addf]

/-- The operations before the bins: the softmax, its largest entry, where that stands, and the first accumulator. -/
def headOps : List (HloOp τ sig (Elt F)) := [
  nullary main_cst (constant S_ .f32 0xFF800000#32),
  binary main_arg0 main_cst main_v0 ((fun x v => Host.reduce FloatOps.maximumf x v reducesTo_S1000000x100_S1000000_d1 h_S_) : (⟨S1000000x100, .f32⟩ : BufTy).Contents (Elt F) → (⟨S_, .f32⟩ : BufTy).Contents (Elt F) → (⟨S1000000, .f32⟩ : BufTy).Contents (Elt F)),
  nullary main_cst_0 (constant S_ .f32 0xFF800000#32),
  unary main_cst_0 main_v1 (broadcastInDim S1000000 ![] bcast_S_S1000000 : (⟨S_, .f32⟩ : BufTy).Contents (Elt F) → (⟨S1000000, .f32⟩ : BufTy).Contents (Elt F)),
  binary main_v1 main_v0 main_v2 (maximumf : (⟨S1000000, .f32⟩ : BufTy).Contents (Elt F) → (⟨S1000000, .f32⟩ : BufTy).Contents (Elt F) → (⟨S1000000, .f32⟩ : BufTy).Contents (Elt F)),
  unary main_v2 main_v3 (broadcastInDim S1000000x1 ![0] bcast_S1000000_S1000000x1_0 : (⟨S1000000, .f32⟩ : BufTy).Contents (Elt F) → (⟨S1000000x1, .f32⟩ : BufTy).Contents (Elt F)),
  unary main_v3 main_v4 (broadcastInDim S1000000x100 ![0, 1] bcast_S1000000x1_S1000000x100_0_1 : (⟨S1000000x1, .f32⟩ : BufTy).Contents (Elt F) → (⟨S1000000x100, .f32⟩ : BufTy).Contents (Elt F)),
  binary main_arg0 main_v4 main_v5 (subf : (⟨S1000000x100, .f32⟩ : BufTy).Contents (Elt F) → (⟨S1000000x100, .f32⟩ : BufTy).Contents (Elt F) → (⟨S1000000x100, .f32⟩ : BufTy).Contents (Elt F)),
  unary main_v5 main_v6 (Host.exp : (⟨S1000000x100, .f32⟩ : BufTy).Contents (Elt F) → (⟨S1000000x100, .f32⟩ : BufTy).Contents (Elt F)),
  nullary main_cst_1 (constant S_ .f32 0x00000000#32),
  binary main_v6 main_cst_1 main_v7 ((fun x v => Host.reduceAdd x v reducesTo_S1000000x100_S1000000_d1 h_S_) : (⟨S1000000x100, .f32⟩ : BufTy).Contents (Elt F) → (⟨S_, .f32⟩ : BufTy).Contents (Elt F) → (⟨S1000000, .f32⟩ : BufTy).Contents (Elt F)),
  unary main_v7 main_v8 (broadcastInDim S1000000x1 ![0] bcast_S1000000_S1000000x1_0 : (⟨S1000000, .f32⟩ : BufTy).Contents (Elt F) → (⟨S1000000x1, .f32⟩ : BufTy).Contents (Elt F)),
  unary main_v8 main_v9 (broadcastInDim S1000000x100 ![0, 1] bcast_S1000000x1_S1000000x100_0_1 : (⟨S1000000x1, .f32⟩ : BufTy).Contents (Elt F) → (⟨S1000000x100, .f32⟩ : BufTy).Contents (Elt F)),
  binary main_v6 main_v9 main_v10 (Host.divf : (⟨S1000000x100, .f32⟩ : BufTy).Contents (Elt F) → (⟨S1000000x100, .f32⟩ : BufTy).Contents (Elt F) → (⟨S1000000x100, .f32⟩ : BufTy).Contents (Elt F)),
  nullary main_cst_2 (constant S_ .f32 0xFF800000#32),
  binary main_v10 main_cst_2 main_v11 ((fun x v => Host.reduce FloatOps.maximumf x v reducesTo_S1000000x100_S1000000_d1 h_S_) : (⟨S1000000x100, .f32⟩ : BufTy).Contents (Elt F) → (⟨S_, .f32⟩ : BufTy).Contents (Elt F) → (⟨S1000000, .f32⟩ : BufTy).Contents (Elt F)),
  TRef.nullary main_call0.v0 (iotaInDim S1000000x100 32 1),
  TRef.nullary main_call0.cst (constant S_ .f32 0xFF800000#32),
  TRef.nullary main_call0.c (constantI S_ 32 0#32),
  TRef.quaternary (.of main_v10) main_call0.v0 main_call0.cst main_call0.c main_call0.v1_0 (fun x y u v j => (Host.argReduce reducer_argmax_f32_i32 x y u v reducesTo_S1000000x100_S1000000_d1 h_S_ j).1),
  TRef.quaternary (.of main_v10) main_call0.v0 main_call0.cst main_call0.c main_call0.v1_1 (fun x y u v j => (Host.argReduce reducer_argmax_f32_i32 x y u v reducesTo_S1000000x100_S1000000_d1 h_S_ j).2),
  binary main_v12 main_arg1 main_v13 (cmpi .eq : (⟨S1000000, .i32⟩ : BufTy).Contents (Elt F) → (⟨S1000000, .i32⟩ : BufTy).Contents (Elt F) → (⟨S1000000, .i1⟩ : BufTy).Contents (Elt F)),
  unary main_v13 main_v14 (uitofp .f32 : (⟨S1000000, .i1⟩ : BufTy).Contents (Elt F) → (⟨S1000000, .f32⟩ : BufTy).Contents (Elt F)),
  nullary main_cst_3 (constant S_ .f32 0x00000000#32),
  unary main_cst_3 main_v15 (broadcastInDim S1 ![] bcast_S_S1 : (⟨S_, .f32⟩ : BufTy).Contents (Elt F) → (⟨S1, .f32⟩ : BufTy).Contents (Elt F))]

/-- The operations of the first `n` bins. -/
def binList : ℕ → List (HloOp τ sig (Elt F))
  | 0 => []
  | n + 1 => binList n ++ (if h : n < 15 then binOps ⟨n, h⟩ else [])

/-- @main is the line of the operations before the bins and of the fifteen bins. -/
theorem main_eq (d : Dev nD) : main (F := F) d = seq (headOps ++ binList 15) := by chain_rfl

/-! ## What a bin leaves -/

/-- Different buffers of a bin differ. -/
theorem bin_ne (i : Fin 15) {k l : Fin 32} (h : k ≠ l) : binRef i k ≠ binRef i l :=
  hbmRef_ne fun e => h (Fin.ext (by omega))
/-- A buffer below a bin's is none of the bin's. -/
theorem out_ne (i : Fin 15) (k : Fin 32) {n : ℕ} {hn : n < 507} (h : n < 27 + 32 * i.val) : hbmRef n hn ≠ binRef i k :=
  hbmRef_ne (by omega)

/-- Different buffers of a bin differ as references of their types. -/
theorem bt_ne (i : Fin 15) {k l : Fin 32} {T U : BufTy} {h : binTy k = T} {h' : binTy l = U} (hkl : k ≠ l) : (bt i k h).ref ≠ (bt i l h').ref :=
  bin_ne i hkl

variable (V : Valuation τ sig (Elt F))

/-- What a typed reference holds. -/
def rd {T : BufTy} (t : TRef sig T) : T.Contents (Elt F) := t.ofBuf (V (Proc.devRef .tc t.ref))

/-- The rows of a bin as zeros and ones: confidence above the lower bound and at most the upper. -/
def binMask (lo hi : BitVec 32) (conf : (⟨S1000000, .f32⟩ : BufTy).Contents (Elt F)) : (⟨S1000000, .f32⟩ : BufTy).Contents (Elt F) :=
  uitofp .f32 (andi (cmpf .ogt conf (broadcastInDim S1000000 ![] bcast_S_S1000000 (constant S_ .f32 lo)))
    (cmpf .ole conf (broadcastInDim S1000000 ![] bcast_S_S1000000 (constant S_ .f32 hi))))

/-- A sum over the rows. -/
def rowSum (x : (⟨S1000000, .f32⟩ : BufTy).Contents (Elt F)) : (⟨S_, .f32⟩ : BufTy).Contents (Elt F) :=
  Host.reduceAdd x (constant S_ .f32 0x00000000#32) reducesTo_S1000000_S_d0 h_S_

/-- A bin's contribution from its count, its sum of confidences and its sum of accuracies. -/
def binTerm (cnt conf corr : (⟨S_, .f32⟩ : BufTy).Contents (Elt F)) : (⟨S_, .f32⟩ : BufTy).Contents (Elt F) :=
  select (cmpf .ogt cnt (constant S_ .f32 0x00000000#32))
    (mulf (Host.absf (subf (Host.divf conf (maximumf cnt (constant S_ .f32 0x3F800000#32)))
        (Host.divf corr (maximumf cnt (constant S_ .f32 0x3F800000#32)))))
      (Host.divf cnt (constant S_ .f32 0x49742400#32)))
    (constant S_ .f32 0x00000000#32)

/-- The accumulator after a bin, from the confidences, the accuracies and the accumulator before. -/
def binStep (lo hi : BitVec 32) (conf corr : (⟨S1000000, .f32⟩ : BufTy).Contents (Elt F)) (prev : (⟨S1, .f32⟩ : BufTy).Contents (Elt F)) :
    (⟨S1, .f32⟩ : BufTy).Contents (Elt F) :=
  addf prev (broadcastInDim S1 ![] bcast_S_S1 (binTerm (rowSum (binMask lo hi conf)) (rowSum (mulf conf (binMask lo hi conf)))
    (rowSum (mulf corr (binMask lo hi conf)))))

/-- A bin's buffer as a typed reference is the buffer. -/
theorem bt_ref (i : Fin 15) (k : Fin 32) {T : BufTy} (h : binTy k = T) : (bt i k h).ref = binRef i k := rfl
/-- An accumulator as a typed reference is the buffer. -/
theorem accT_ref (n : Fin 16) : (accT n).ref = hbmRef (26 + 32 * n.val) (by omega) := rfl

/-- A bin leaves every buffer below its own as it was. -/
theorem binOps_keeps (i : Fin 15) {n : ℕ} (hn : n < 507) (h : n < 27 + 32 * i.val) :
    after (binOps i) V (Proc.devRef .tc (hbmRef n hn)) = V (Proc.devRef .tc (hbmRef n hn)) := by
  have hk : ∀ {k : Fin 32} {T : BufTy} {h : binTy k = T}, hbmRef n hn ≠ (bt i k h).ref := out_ne i _ h
  unfold binOps
  simp only [after_cons, after_nil]
  simp (disch := exact hk) only [nullary_result_ne', unary_result_ne', binary_result_ne', ternary_result_ne']

/-- What a bin leaves in the next accumulator. -/
theorem binOps_acc (i : Fin 15) :
    rd (after (binOps i) V) (accT i.succ) = binStep (bound i.castSucc) (bound i.succ) (rd V confT) (rd V corrT) (rd V (accT i.castSucc)) := by
  have h11 : ∀ {k : Fin 32} {T : BufTy} {h : binTy k = T}, main_v11 ≠ (bt i k h).ref := out_ne i _ (n := 17) (hn := by decide) (by omega)
  have h14 : ∀ {k : Fin 32} {T : BufTy} {h : binTy k = T}, main_v14 ≠ (bt i k h).ref := out_ne i _ (n := 24) (hn := by decide) (by omega)
  have ha : ∀ {k : Fin 32} {T : BufTy} {h : binTy k = T}, (accT i.castSucc).ref ≠ (bt i k h).ref :=
    out_ne i _ (by rw [Fin.val_castSucc]; omega)
  rw [← accT_succ]
  unfold rd binOps
  simp only [after_cons, after_nil]
  simp (disch := first | exact bt_ne i (by decide) | exact h11 | exact h14 | exact ha) only
    [nullary_result', unary_result', binary_result', ternary_result', nullary_result_ne', unary_result_ne', binary_result_ne',
     ternary_result_ne', TRef.ofBuf_toBuf]
  rfl

end Cert.EceRef
-- ==== Proof.RefValue.lean ====
module

public import proofs.«01_k».proof.Proof.RefRun
public import Idealize.ShloMosaic.Lib.Quiescent

@[expose] public section

noncomputable section

namespace Cert.EceRef

open Idealize.ShloMosaic Idealize.ShloMosaic.StableHlo Idealize.SL.Sem TcCoe
open Cert.ReferenceIdeal
open Cert.ReferenceIdeal.Facts₀ Cert.ReferenceIdeal.Facts

variable {F : FTy → Type} [FloatOps F] (V : Valuation τ sig (Elt F))

/-! ## What the operations before the bins leave -/

/-- The exponentials of the logits less their row's largest. -/
def refExp (X : (⟨S1000000x100, .f32⟩ : BufTy).Contents (Elt F)) : (⟨S1000000x100, .f32⟩ : BufTy).Contents (Elt F) :=
  Host.exp (subf X (broadcastInDim S1000000x100 ![0, 1] bcast_S1000000x1_S1000000x100_0_1
    (broadcastInDim S1000000x1 ![0] bcast_S1000000_S1000000x1_0
      (maximumf (broadcastInDim S1000000 ![] bcast_S_S1000000 (constant S_ .f32 0xFF800000#32))
        (Host.reduce FloatOps.maximumf X (constant S_ .f32 0xFF800000#32) reducesTo_S1000000x100_S1000000_d1 h_S_)))))

/-- The softmax of the logits. -/
def refProbs (X : (⟨S1000000x100, .f32⟩ : BufTy).Contents (Elt F)) : (⟨S1000000x100, .f32⟩ : BufTy).Contents (Elt F) :=
  Host.divf (refExp X) (broadcastInDim S1000000x100 ![0, 1] bcast_S1000000x1_S1000000x100_0_1
    (broadcastInDim S1000000x1 ![0] bcast_S1000000_S1000000x1_0
      (Host.reduceAdd (refExp X) (constant S_ .f32 0x00000000#32) reducesTo_S1000000x100_S1000000_d1 h_S_)))

/-- A row's confidence: its largest probability. -/
def refConf (X : (⟨S1000000x100, .f32⟩ : BufTy).Contents (Elt F)) : (⟨S1000000, .f32⟩ : BufTy).Contents (Elt F) :=
  Host.reduce FloatOps.maximumf (refProbs X) (constant S_ .f32 0xFF800000#32) reducesTo_S1000000x100_S1000000_d1 h_S_

/-- A row's prediction: where its largest probability first stands. -/
def refPred (X : (⟨S1000000x100, .f32⟩ : BufTy).Contents (Elt F)) : (⟨S1000000, .i32⟩ : BufTy).Contents (Elt F) :=
  fun j => (Host.argReduce reducer_argmax_f32_i32 (refProbs X) (iotaInDim S1000000x100 32 1) (constant S_ .f32 0xFF800000#32)
    (constantI S_ 32 0#32) reducesTo_S1000000x100_S1000000_d1 h_S_ j).2

/-- A row's accuracy: one where the prediction is the label, zero elsewhere. -/
def refCorr (X : (⟨S1000000x100, .f32⟩ : BufTy).Contents (Elt F)) (L : (⟨S1000000, .i32⟩ : BufTy).Contents (Elt F)) :
    (⟨S1000000, .f32⟩ : BufTy).Contents (Elt F) :=
  uitofp .f32 (cmpi .eq (refPred X) L)

/-- The first accumulator. -/
def refZero : (⟨S1, .f32⟩ : BufTy).Contents (Elt F) := broadcastInDim S1 ![] bcast_S_S1 (constant S_ .f32 0x00000000#32)

/-- The operations before the bins leave the confidences, -/
theorem head_conf : rd (after headOps V) confT = refConf (V (Proc.devRef .tc main_arg0)) := by
  unfold rd headOps
  after_reads_simp
  chain_rfl
/-- the indicator of correct predictions, -/
theorem head_corr : rd (after headOps V) corrT = refCorr (V (Proc.devRef .tc main_arg0)) (V (Proc.devRef .tc main_arg1)) := by
  unfold rd headOps
  after_reads_simp
  chain_rfl
/-- and the accumulator at zero; -/
theorem head_acc : rd (after headOps V) (accT 0) = refZero := by
  show (after headOps V) (Proc.devRef .tc main_v15) = _
  unfold headOps
  after_reads_simp
  rfl
/-- they keep the logits -/
theorem head_arg0 : after headOps V (Proc.devRef .tc main_arg0) = V (Proc.devRef .tc main_arg0) := by
  unfold headOps
  after_reads_simp
/-- and the labels. -/
theorem head_arg1 : after headOps V (Proc.devRef .tc main_arg1) = V (Proc.devRef .tc main_arg1) := by
  unfold headOps
  after_reads_simp

/-! ## What the bins leave -/

/-- The accumulator after the first `n` bins. -/
def refAcc (conf corr : (⟨S1000000, .f32⟩ : BufTy).Contents (Elt F)) : ℕ → (⟨S1, .f32⟩ : BufTy).Contents (Elt F)
  | 0 => refZero
  | n + 1 => if h : n < 15 then binStep (bound (⟨n, h⟩ : Fin 15).castSucc) (bound (⟨n, h⟩ : Fin 15).succ) conf corr (refAcc conf corr n)
      else refAcc conf corr n

/-- Running one list after another is running both in turn. -/
theorem after_app (l₁ l₂ : List (HloOp τ sig (Elt F))) : after (l₁ ++ l₂) V = after l₂ (after l₁ V) := by
  induction l₁ generalizing V with
  | nil => rfl
  | cons op l ih => exact ih _

/-- The bins leave every buffer below theirs as it was. -/
theorem binList_keeps {n : ℕ} (hn : n < 507) (h : n < 27) (k : ℕ) :
    after (binList k) V (Proc.devRef .tc (hbmRef n hn)) = V (Proc.devRef .tc (hbmRef n hn)) := by
  induction k with
  | zero => rfl
  | succ k ih =>
    rw [binList, after_app]
    split
    · exact (binOps_keeps _ _ hn (by omega)).trans ih
    · exact ih

/-- The accumulator after the first bins. -/
theorem binList_acc (hz : rd V (accT 0) = refZero) (k : Fin 16) :
    rd (after (binList k.val) V) (accT k) = refAcc (rd V confT) (rd V corrT) k.val := by
  induction k using Fin.induction with
  | zero => exact hz
  | succ i ih =>
    rw [Fin.val_succ, binList, refAcc, after_app, dif_pos i.isLt, dif_pos i.isLt]
    refine (binOps_acc _ i).trans ?_
    rw [Fin.val_castSucc] at ih
    rw [ih]
    have e1 : rd (after (binList i.castSucc.val) V) confT = rd V confT :=
      congrArg confT.ofBuf (binList_keeps V (n := 17) (by decide) (by decide) _)
    have e2 : rd (after (binList i.castSucc.val) V) corrT = rd V corrT :=
      congrArg corrT.ofBuf (binList_keeps V (n := 24) (by decide) (by decide) _)
    rw [Fin.val_castSucc] at e1 e2
    rw [e1, e2]

/-! ## The run -/

/-- The reference's result from its arguments. -/
def refResult (X : (⟨S1000000x100, .f32⟩ : BufTy).Contents (Elt F)) (L : (⟨S1000000, .i32⟩ : BufTy).Contents (Elt F)) :
    (⟨S1, .f32⟩ : BufTy).Contents (Elt F) := refAcc (refConf X) (refCorr X L) 15

/-- Every operation works on the core's own buffers and draws nothing fresh. -/
theorem ops_ok : (headOps (F := F) ++ binList 15).Forall fun op : HloOp τ sig (Elt F) => op.bufs ⊆ tcRefs τ sig ∧ op.fresh = ∅ := by
  have hb : ∀ i, (binOps (F := F) i).Forall fun op : HloOp τ sig (Elt F) => op.bufs ⊆ tcRefs τ sig ∧ op.fresh = ∅ := by
    intro i
    unfold binOps
    simp only [List.Forall, nullary_bufs_sub, unary_bufs_sub, binary_bufs_sub, ternary_bufs_sub, true_and]
    repeat' constructor
  have hl : ∀ n, (binList (F := F) n).Forall fun op : HloOp τ sig (Elt F) => op.bufs ⊆ tcRefs τ sig ∧ op.fresh = ∅ := by
    intro n
    induction n with
    | zero => trivial
    | succ n ih =>
      rw [binList, List.forall_append]
      refine ⟨ih, ?_⟩
      split
      · exact hb _
      · trivial
  rw [List.forall_append]
  refine ⟨?_, hl 15⟩
  unfold headOps
  simp only [List.Forall, nullary_bufs_sub, unary_bufs_sub, binary_bufs_sub, ternary_bufs_sub, quaternary_bufs_sub, true_and]
  repeat' constructor

/-- The accumulator after the last bin is the result's buffer. -/
theorem rd_last (W : Valuation τ sig (Elt F)) : rd W (accT (15 : Fin 16)) = W (Proc.devRef .tc main_v345) := rfl
/-- At the launch the logits' buffer holds what the memory holds, -/
theorem launch_arg0 (m : (ℓ : Loc nD τ sig) → Buf (Elt F) ℓ) (c : Dev nD) :
    launchContents m c (Proc.devRef .tc main_arg0) = m ((c.tc : Thread nD τ).loc main_arg0) := rfl
/-- and so does the labels'. -/
theorem launch_arg1 (m : (ℓ : Loc nD τ sig) → Buf (Elt F) ℓ) (c : Dev nD) :
    launchContents m c (Proc.devRef .tc main_arg1) = m ((c.tc : Thread nD τ).loc main_arg1) := rfl

/-- The reference's result over the launch contents. -/
theorem after_result (m : (ℓ : Loc nD τ sig) → Buf (Elt F) ℓ) (c : Dev nD) :
    after (headOps ++ binList 15) (launchContents m c) (Proc.devRef .tc main_v345)
      = refResult (m ((c.tc : Thread nD τ).loc main_arg0)) (m ((c.tc : Thread nD τ).loc main_arg1)) := by
  have e := binList_acc (after headOps (launchContents m c)) (head_acc _) (15 : Fin 16)
  rw [head_conf, head_corr, launch_arg0, launch_arg1, show (15 : Fin 16).val = 15 from rfl] at e
  rw [after_app]
  exact (rd_last _).symm.trans (e.trans rfl)

/-- The reference ends with its result at `refResult` of its arguments, its arguments as launched and every counter at zero. -/
theorem run_ref (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_v345)
        = refResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  have hok := List.forall_iff_forall_mem.mp (ops_ok (F := F))
  refine θ_run_mono (run_seq (by decide) (by decide) defs main (fun _ => headOps ++ binList 15) main_eq
    (fun _ => List.forall_iff_forall_mem.mpr fun op h => (hok op h).1) m g (fun _ op h => (hok op h).2)) fun r h => ⟨fun c => ⟨?_, ?_, ?_⟩, ?_⟩
  · rw [h c main_v345]
    exact after_result m c
  · rw [h c main_arg0, after_app]
    exact (binList_keeps _ (n := 0) (by decide) (by decide) _).trans (head_arg0 _)
  · rw [h c main_arg1, after_app]
    exact (binList_keeps _ (n := 1) (by decide) (by decide) _).trans (head_arg1 _)
  · exact sem_eq_zero_of_no_sems (by decide) _

end Cert.EceRef
-- ==== Proof.RowMath.lean ====
/-
  The mathematics of one row, over the extended reals.

  A row is a function of a hundred extended reals. The kernel takes for its confidence the reciprocal of the sum of
  the exponentials of the row less its maximum, and for its prediction the least place at which the maximum stands.
  The reference takes the largest entry of the softmax and the place where that first stands. This module proves
  that the two contribute the same to every bin.
-/
module

public import Idealize.ShloMosaic.Lib.Pointwise

@[expose] public section

noncomputable section

namespace Cert.Ece

open Idealize.ShloMosaic

/-! ## The constants -/

/-- The word of minus infinity. -/
theorem ofBits_neg_inf : Ideal.ofBits .f32 0xFF800000#32 = ⊥ := by simp [Ideal.ofBits, Ideal.ieee]
/-- The word of infinity. -/
theorem ofBits_pos_inf : Ideal.ofBits .f32 0x7F800000#32 = ⊤ := by simp [Ideal.ofBits, Ideal.ieee]
/-- The word of one hundred. -/
theorem ofBits_hundred : Ideal.ofBits .f32 0x42C80000#32 = ((100 : ℝ) : EReal) := by
  simp [Ideal.ofBits, Ideal.ieee]
  rw [← EReal.coe_mul, EReal.coe_eq_coe_iff]
  norm_num

/-- A word whose exponent is not all ones does not denote plus infinity. -/
theorem ofBits_ne_top (b : BitVec 32) (h : (b.extractLsb' 23 8).toNat ≠ 255) : Ideal.ofBits .f32 b ≠ ⊤ := by
  show Ideal.ieee 8 23 b ≠ ⊤
  unfold Ideal.ieee
  dsimp only
  rw [if_neg (by simpa using h)]
  split <;> exact EReal.coe_ne_top _

/-! ## A row's maximum and the exponentials -/

/-- The maximum of a row. -/
def rowTop (x : Fin 100 → EReal) : EReal := Finset.univ.fold max ⊥ x

/-- The sum of the exponentials of a row less its maximum. -/
def rowExpSum (x : Fin 100 → EReal) : EReal := ∑ k, Ideal.exp (x k - rowTop x)

/-- The kernel's confidence. -/
def rowConf (x : Fin 100 → EReal) : EReal := Ideal.div 1 (rowExpSum x)

/-- An entry of the softmax of a row. -/
def rowProb (x : Fin 100 → EReal) (k : Fin 100) : EReal := Ideal.div (Ideal.exp (x k - rowTop x)) (rowExpSum x)

/-- The reference's confidence. -/
def rowRefConf (x : Fin 100 → EReal) : EReal := Finset.univ.fold max ⊥ (rowProb x)

/-- The kernel's prediction, a real number: the least place at which the maximum stands. -/
def rowPred (x : Fin 100 → EReal) : EReal :=
  Finset.univ.fold min ⊤ fun k : Fin 100 => if x k = rowTop x then ((k.val : ℝ) : EReal) else ((100 : ℝ) : EReal)

/-- No entry exceeds the row's maximum. -/
theorem le_rowTop (x : Fin 100 → EReal) (k : Fin 100) : x k ≤ rowTop x :=
  Finset.le_sup (f := x) (Finset.mem_univ k)

/-- Some entry is the row's maximum. -/
theorem rowTop_attained (x : Fin 100 → EReal) : ∃ k, x k = rowTop x := by
  obtain ⟨k, _, hk⟩ := Finset.exists_mem_eq_sup Finset.univ ⟨0, Finset.mem_univ _⟩ x
  exact ⟨k, hk.symm⟩

/-- The exponential of an entry less a real maximum: a real of the unit interval, one exactly at the maximum. -/
theorem exp_sub_real (a : EReal) (m : ℝ) (h : a ≤ (m : EReal)) :
    ∃ e : ℝ, Ideal.exp (a - m) = (e : EReal) ∧ 0 ≤ e ∧ e ≤ 1 ∧ (e = 1 ↔ a = m) := by
  induction a with
  | bot => exact ⟨0, by rw [EReal.bot_sub]; rfl, le_refl _, zero_le_one, by simp⟩
  | top => exact absurd (top_le_iff.mp h) (EReal.coe_ne_top _)
  | coe r =>
    have hr : r ≤ m := EReal.coe_le_coe_iff.mp h
    refine ⟨Real.exp (r - m), ?_, Real.exp_nonneg _, Real.exp_le_one_iff.mpr (by linarith), ?_⟩
    · rw [← EReal.coe_sub]; rfl
    · rw [Real.exp_eq_one_iff, EReal.coe_eq_coe_iff, sub_eq_zero]

/-- At an infinite maximum every exponential is zero. -/
theorem exp_sub_inf (a m : EReal) (h : a ≤ m) (hm : m = ⊤ ∨ m = ⊥) : Ideal.exp (a - m) = 0 := by
  have e : a - m = ⊥ := by
    rcases hm with rfl | rfl
    · exact EReal.sub_top _
    · rw [le_bot_iff.mp h]; rfl
  rw [e]; rfl

/-- A finite sum of reals, read in the extended reals. -/
theorem coe_sum {ι : Type} (S : Finset ι) (f : ι → ℝ) : ((∑ k ∈ S, f k : ℝ) : EReal) = ∑ k ∈ S, (f k : EReal) := by
  classical
  induction S using Finset.induction_on with
  | empty => rfl
  | insert a S h ih => rw [Finset.sum_insert h, Finset.sum_insert h, EReal.coe_add, ih]

/-- The reals behind a row of real maximum: its exponentials and their sum. -/
theorem row_real (x : Fin 100 → EReal) (h1 : rowTop x ≠ ⊤) (h2 : rowTop x ≠ ⊥) :
    ∃ (e : Fin 100 → ℝ) (s : ℝ), (∀ k, Ideal.exp (x k - rowTop x) = (e k : EReal)) ∧ rowExpSum x = (s : EReal) ∧ 0 < s
      ∧ (∀ k, 0 ≤ e k ∧ e k ≤ 1 ∧ (e k = 1 ↔ x k = rowTop x)) := by
  obtain ⟨m, hm⟩ : ∃ m : ℝ, rowTop x = m := ⟨(rowTop x).toReal, (EReal.coe_toReal h1 h2).symm⟩
  choose e he using fun k => exp_sub_real (x k) m (hm ▸ le_rowTop x k)
  refine ⟨e, ∑ k, e k, fun k => by rw [hm]; exact (he k).1, ?_, ?_, fun k => ⟨(he k).2.1, (he k).2.2.1, by rw [hm]; exact (he k).2.2.2⟩⟩
  · unfold rowExpSum
    rw [coe_sum]
    exact Finset.sum_congr rfl fun k _ => by rw [hm]; exact (he k).1
  · obtain ⟨k, hk⟩ := rowTop_attained x
    have h1 : e k = 1 := ((he k).2.2.2).mpr (by rw [hk, hm])
    exact lt_of_lt_of_le (by rw [h1]; exact one_pos) (Finset.single_le_sum (f := e) (fun i _ => (he i).2.1) (Finset.mem_univ k))

/-- A quotient by a positive real. -/
theorem div_real (a s : ℝ) (hs : 0 < s) : Ideal.div (a : EReal) (s : EReal) = ((a / s : ℝ) : EReal) := by
  unfold Ideal.div
  rw [if_neg (by rw [← EReal.coe_zero, EReal.coe_eq_coe_iff]; exact hs.ne'), ← EReal.coe_inv, ← EReal.coe_mul, div_eq_mul_inv]

/-- A row of infinite maximum: the kernel's confidence is plus infinity, the reference's minus infinity. -/
theorem row_inf (x : Fin 100 → EReal) (h : rowTop x = ⊤ ∨ rowTop x = ⊥) : rowConf x = ⊤ ∧ rowRefConf x = ⊥ := by
  have hs : rowExpSum x = 0 := Finset.sum_eq_zero fun k _ => exp_sub_inf _ _ (le_rowTop x k) h
  constructor
  · unfold rowConf Ideal.div
    rw [hs, if_pos rfl, if_pos zero_lt_one]
  · have hp : ∀ k, rowProb x k = ⊥ := fun k => by
      unfold rowProb Ideal.div
      rw [hs, if_pos rfl, exp_sub_inf _ _ (le_rowTop x k) h, if_neg (lt_irrefl _)]
    show Finset.univ.sup (rowProb x) = ⊥
    exact (Finset.sup_eq_bot_iff _ _).mpr fun k _ => hp k

/-- A row of real maximum: the two confidences are equal. -/
theorem row_conf_eq (x : Fin 100 → EReal) (h1 : rowTop x ≠ ⊤) (h2 : rowTop x ≠ ⊥) : rowRefConf x = rowConf x := by
  obtain ⟨e, s, he, hs, hpos, hk⟩ := row_real x h1 h2
  have hc : rowConf x = ((1 / s : ℝ) : EReal) := by
    unfold rowConf; rw [hs, ← EReal.coe_one]; exact div_real 1 s hpos
  have hp : ∀ k, rowProb x k = ((e k / s : ℝ) : EReal) := fun k => by
    unfold rowProb; rw [hs, he]; exact div_real _ s hpos
  rw [hc]
  show Finset.univ.sup (rowProb x) = _
  apply le_antisymm
  · exact Finset.sup_le fun k _ => by
      rw [hp, EReal.coe_le_coe_iff]; exact div_le_div_of_nonneg_right (hk k).2.1 hpos.le
  · obtain ⟨k, hx⟩ := rowTop_attained x
    rw [show ((1 / s : ℝ) : EReal) = rowProb x k by rw [hp, (hk k).2.2.mpr hx]]
    exact Finset.le_sup (f := rowProb x) (Finset.mem_univ k)

/-- Over a finite maximum no probability is minus infinity. -/
theorem row_prob_ne_bot (x : Fin 100 → EReal) (h1 : rowTop x ≠ ⊤) (h2 : rowTop x ≠ ⊥) (k : Fin 100) : rowProb x k ≠ ⊥ := by
  obtain ⟨e, s, he, hs, hpos, -⟩ := row_real x h1 h2
  unfold rowProb
  rw [hs, he, div_real _ s hpos]
  exact EReal.coe_ne_bot _

/-- On a row of real maximum, the softmax is largest at `k` and nowhere before exactly when the row is. -/
theorem row_prob_order (x : Fin 100 → EReal) (h1 : rowTop x ≠ ⊤) (h2 : rowTop x ≠ ⊥) (k : Fin 100)
    (hmax : ∀ l, rowProb x l < rowProb x k ∨ (rowProb x l = rowProb x k ∧ k ≤ l)) :
    x k = rowTop x ∧ ∀ l, x l = rowTop x → k ≤ l := by
  obtain ⟨e, s, he, hs, hpos, hk⟩ := row_real x h1 h2
  have hp : ∀ k, rowProb x k = ((e k / s : ℝ) : EReal) := fun k => by
    unfold rowProb; rw [hs, he]; exact div_real _ s hpos
  have hle : ∀ l, e l ≤ e k := fun l => by
    have h : rowProb x l ≤ rowProb x k := (hmax l).elim le_of_lt fun h => h.1.le
    rw [hp, hp, EReal.coe_le_coe_iff, div_le_div_iff_of_pos_right hpos] at h
    exact h
  obtain ⟨j, hj⟩ := rowTop_attained x
  have hek : e k = 1 := le_antisymm (hk k).2.1 ((hk j).2.2.mpr hj ▸ hle j)
  refine ⟨(hk k).2.2.mp hek, fun l hl => ?_⟩
  rcases hmax l with h | h
  · rw [hp, hp, (hk l).2.2.mpr hl, hek] at h
    exact absurd h (lt_irrefl _)
  · exact h.2

/-- The kernel's prediction is the first place of the maximum. -/
theorem row_pred_eq (x : Fin 100 → EReal) (k : Fin 100) (hk : x k = rowTop x) (hmin : ∀ l, x l = rowTop x → k ≤ l) :
    rowPred x = ((k.val : ℝ) : EReal) := by
  show Finset.univ.inf _ = _
  apply le_antisymm
  · exact (Finset.inf_le (Finset.mem_univ k)).trans (by rw [if_pos hk])
  · refine Finset.le_inf fun l _ => ?_
    split
    · rename_i h
      exact EReal.coe_le_coe_iff.mpr (Nat.cast_le.mpr (hmin l h))
    · exact EReal.coe_le_coe_iff.mpr (by exact_mod_cast (Nat.le_of_lt k.isLt))

/-! ## What a row adds to a bin -/

/-- What a row adds to a bin's count, -/
def rowCnt (lo hi : EReal) (x : Fin 100 → EReal) : EReal := if lo < rowConf x ∧ rowConf x ≤ hi then 1 else 0
/-- to its sum of confidences, -/
def rowCon (lo hi : EReal) (x : Fin 100 → EReal) : EReal := if lo < rowConf x ∧ rowConf x ≤ hi then rowConf x else 0
/-- and to its number of correct predictions, the label a real number. -/
def rowAcc (lo hi : EReal) (x : Fin 100 → EReal) (lab : EReal) : EReal :=
  if lo < rowConf x ∧ rowConf x ≤ hi then (if rowPred x = lab then 1 else 0) else 0

/-- The reference's mask of a row. -/
def rowMask (lo hi : EReal) (x : Fin 100 → EReal) : EReal := if lo < rowRefConf x ∧ rowRefConf x ≤ hi then 1 else 0

/-- A row lies in a bin for the kernel exactly when it does for the reference, and then its maximum is real. -/
theorem row_bin (lo hi : EReal) (hhi : hi ≠ ⊤) (x : Fin 100 → EReal) :
    (rowTop x ≠ ⊤ ∧ rowTop x ≠ ⊥ ∧ rowRefConf x = rowConf x)
      ∨ (¬ (lo < rowConf x ∧ rowConf x ≤ hi) ∧ ¬ (lo < rowRefConf x ∧ rowRefConf x ≤ hi)) := by
  by_cases h1 : rowTop x = ⊤
  · obtain ⟨a, b⟩ := row_inf x (.inl h1)
    exact .inr ⟨fun h => hhi (top_le_iff.mp (a ▸ h.2)), fun h => not_lt_bot (b ▸ h.1)⟩
  · by_cases h2 : rowTop x = ⊥
    · obtain ⟨a, b⟩ := row_inf x (.inr h2)
      exact .inr ⟨fun h => hhi (top_le_iff.mp (a ▸ h.2)), fun h => not_lt_bot (b ▸ h.1)⟩
    · exact .inl ⟨h1, h2, row_conf_eq x h1 h2⟩

/-- What a row adds to a count is its mask; -/
theorem rowCnt_eq (lo hi : EReal) (hhi : hi ≠ ⊤) (x : Fin 100 → EReal) : rowCnt lo hi x = rowMask lo hi x := by
  unfold rowCnt rowMask
  rcases row_bin lo hi hhi x with ⟨_, _, h⟩ | ⟨h, h'⟩
  · rw [h]
  · rw [if_neg h, if_neg h']

/-- what it adds to a sum of confidences is the reference's confidence times its mask. -/
theorem rowCon_eq (lo hi : EReal) (hhi : hi ≠ ⊤) (x : Fin 100 → EReal) : rowCon lo hi x = rowRefConf x * rowMask lo hi x := by
  unfold rowCon rowMask
  rcases row_bin lo hi hhi x with ⟨_, _, h⟩ | ⟨h, h'⟩
  · rw [h]; split
    · rw [mul_one]
    · rw [mul_zero]
  · rw [if_neg h, if_neg h', mul_zero]

/-- The contributions to the number of correct predictions agree, for a reference's prediction `p` that is the word of
    the place where the softmax is first largest whenever the row's maximum is real. -/
theorem rowAcc_eq (lo hi : EReal) (hhi : hi ≠ ⊤) (x : Fin 100 → EReal) (p lab : BitVec 32)
    (hp : rowTop x ≠ ⊤ → rowTop x ≠ ⊥ → ∃ k : Fin 100, p = BitVec.ofNat 32 k.val
      ∧ ∀ l, rowProb x l < rowProb x k ∨ (rowProb x l = rowProb x k ∧ k ≤ l)) :
    rowAcc lo hi x ((lab.toInt : ℝ) : EReal) = (if p = lab then 1 else 0) * rowMask lo hi x := by
  unfold rowAcc rowMask
  rcases row_bin lo hi hhi x with ⟨h1, h2, h⟩ | ⟨h, h'⟩
  · rw [h]; split
    · obtain ⟨k, rfl, hmax⟩ := hp h1 h2
      obtain ⟨hk, hmin⟩ := row_prob_order x h1 h2 k hmax
      rw [mul_one, row_pred_eq x k hk hmin]
      have hi : (BitVec.ofNat 32 k.val).toInt = k.val := by
        have := k.isLt
        rw [BitVec.toInt_eq_toNat_of_lt (by simp; omega)]
        simp; omega
      refine if_congr ?_ rfl rfl
      rw [EReal.coe_eq_coe_iff, ← BitVec.toInt_inj, hi]
      exact_mod_cast Iff.rfl
    · rw [mul_zero]
  · rw [if_neg h, if_neg h', mul_zero]

end Cert.Ece
-- ==== Proof.RefRows.lean ====
/-
  The reference's values read row by row over the extended reals.

  The lemmas about shapes are stated for any number of rows `N`; the reference has a million.
-/
module

public import proofs.«01_k».proof.Proof.RefValue
public import proofs.«01_k».proof.Proof.RowMath

@[expose] public section

noncomputable section

namespace Cert.EceRef

open Cert.ReferenceIdeal Cert.Ece
open Idealize.ShloMosaic

section Shapes

variable {N : ℕ}

/-- A column spread over a matrix's rows, read at a row. -/
theorem spread_apply {α : Type} (hN : N ≠ 1) (h₁ : (⟨1, ![N]⟩ : Shape).BroadcastsInDim ⟨2, ![N, 1]⟩ ![0])
    (h₂ : (⟨2, ![N, 1]⟩ : Shape).BroadcastsInDim ⟨2, ![N, 100]⟩ ![0, 1]) (v : (⟨1, ![N]⟩ : Shape).Idx → α) (r : Fin N) (k : Fin 100) :
    broadcastInDim ⟨2, ![N, 100]⟩ ![0, 1] h₂ (broadcastInDim ⟨2, ![N, 1]⟩ ![0] h₁ v) (ix2 r k) = v (ix1 r) := by
  unfold broadcastInDim
  refine congrArg v (funext fun a => Fin.ext ?_)
  match a with
  | ⟨0, _⟩ =>
    split
    · rename_i h; exact absurd h hN
    · dsimp only
      split
      · rename_i h; exact absurd h hN
      · rfl

/-- The largest entry of a row, from a given start. -/
theorem reduceMax_apply (h : (⟨2, ![N, 100]⟩ : Shape).ReducesTo [1] ⟨1, ![N]⟩) (hu : 0 < S_.numel)
    (x : (⟨2, ![N, 100]⟩ : Shape).Idx → Ideal .f32) (c : S_.Idx → Ideal .f32) (r : Fin N) :
    Host.reduce FloatOps.maximumf x c h hu (ix1 r) = Finset.univ.fold max (c (Shape.Idx.first hu)) fun k : Fin 100 => x (ix2 r k) := by
  have e := Host.reduce_eq_fold (max : EReal → EReal → EReal) x c h hu (ix1 r)
  exact e.trans (h.fold_fiber_r2_a1 (ix1 r) max _ x)

/-- The sum of a row's entries, from a given start. -/
theorem reduceSum_apply (h : (⟨2, ![N, 100]⟩ : Shape).ReducesTo [1] ⟨1, ![N]⟩) (hu : 0 < S_.numel)
    (x : FVec Ideal (⟨2, ![N, 100]⟩ : Shape) .f32) (c : S_.Idx → Ideal .f32) (r : Fin N) :
    Host.reduceAdd x c h hu (ix1 r) = (c (Shape.Idx.first hu) : EReal) + ∑ k : Fin 100, (x (ix2 r k) : EReal) :=
  Ideal.hostReduceAdd_r2_a1 h x _ (ix1 r)

/-- The sum of a vector's entries, from a given start. -/
theorem reduceAll_apply (h : (⟨1, ![N]⟩ : Shape).ReducesTo [0] S_) (hu : 0 < S_.numel)
    (x : FVec Ideal (⟨1, ![N]⟩ : Shape) .f32) (c : S_.Idx → Ideal .f32) (j : S_.Idx) :
    Host.reduceAdd x c h hu j = (c (Shape.Idx.first hu) : EReal) + ∑ k : Fin N, (x (ix1 k) : EReal) :=
  Ideal.hostReduceAdd_r1_a0 h x _ j

variable (h₁ : (⟨1, ![N]⟩ : Shape).BroadcastsInDim ⟨2, ![N, 1]⟩ ![0]) (h₂ : (⟨2, ![N, 1]⟩ : Shape).BroadcastsInDim ⟨2, ![N, 100]⟩ ![0, 1])
  (h₀ : S_.BroadcastsInDim (⟨1, ![N]⟩ : Shape) (![] : Fin 0 → Fin 1)) (hr : (⟨2, ![N, 100]⟩ : Shape).ReducesTo [1] ⟨1, ![N]⟩) (hu : 0 < S_.numel)
  (X : FVec Ideal (⟨2, ![N, 100]⟩ : Shape) .f32)

/-- A row of a matrix of logits. -/
def rowOf (X : FVec Ideal (⟨2, ![N, 100]⟩ : Shape) .f32) (r : Fin N) : Fin 100 → EReal := fun k => X (ix2 r k)

/-- The exponentials of the rows less their maxima, as the reference writes them; -/
def expN : FVec Ideal (⟨2, ![N, 100]⟩ : Shape) .f32 :=
  Host.exp (subf X (broadcastInDim ⟨2, ![N, 100]⟩ ![0, 1] h₂ (broadcastInDim ⟨2, ![N, 1]⟩ ![0] h₁
    (maximumf (broadcastInDim ⟨1, ![N]⟩ ![] h₀ (constant S_ .f32 0xFF800000#32))
      (Host.reduce FloatOps.maximumf X (constant S_ .f32 0xFF800000#32) hr hu)))))

/-- the softmax; -/
def probsN : FVec Ideal (⟨2, ![N, 100]⟩ : Shape) .f32 :=
  Host.divf (expN h₁ h₂ h₀ hr hu X) (broadcastInDim ⟨2, ![N, 100]⟩ ![0, 1] h₂ (broadcastInDim ⟨2, ![N, 1]⟩ ![0] h₁
    (Host.reduceAdd (expN h₁ h₂ h₀ hr hu X) (constant S_ .f32 0x00000000#32) hr hu)))

/-- and its largest entries. -/
def confN : FVec Ideal (⟨1, ![N]⟩ : Shape) .f32 :=
  Host.reduce FloatOps.maximumf (probsN h₁ h₂ h₀ hr hu X) (constant S_ .f32 0xFF800000#32) hr hu

variable (hN : N ≠ 1) (r : Fin N)

include hN in
/-- An exponential, by its row's logits. -/
theorem expN_apply (k : Fin 100) : expN h₁ h₂ h₀ hr hu X (ix2 r k) = Ideal.exp (rowOf X r k - rowTop (rowOf X r)) := by
  unfold expN
  show Ideal.exp (X (ix2 r k) - _) = _
  rw [spread_apply hN]
  show Ideal.exp (X (ix2 r k) - max (Ideal.ofBits .f32 0xFF800000#32) _) = _
  rw [reduceMax_apply]
  show Ideal.exp (X (ix2 r k) - max (Ideal.ofBits .f32 0xFF800000#32) (Finset.univ.fold max (Ideal.ofBits .f32 0xFF800000#32) (rowOf X r))) = _
  rw [ofBits_neg_inf, max_eq_right bot_le]
  rfl

include hN in
/-- A probability, by its row's logits. -/
theorem probsN_apply (k : Fin 100) : probsN h₁ h₂ h₀ hr hu X (ix2 r k) = rowProb (rowOf X r) k := by
  unfold probsN
  show Ideal.div (expN h₁ h₂ h₀ hr hu X (ix2 r k)) _ = Ideal.div _ _
  rw [spread_apply hN, expN_apply _ _ _ _ _ _ hN, reduceSum_apply]
  show Ideal.div _ (Ideal.ofBits .f32 0x00000000#32 + _) = _
  rw [Ideal.ofBits_zero_f32, zero_add]
  refine congrArg (Ideal.div _) (Finset.sum_congr rfl fun l _ => expN_apply _ _ _ _ _ _ hN r l)

include hN in
/-- A confidence, by its row's logits. -/
theorem confN_apply : confN h₁ h₂ h₀ hr hu X (ix1 r) = rowRefConf (rowOf X r) := by
  unfold confN
  rw [reduceMax_apply]
  show Finset.univ.fold max (Ideal.ofBits .f32 0xFF800000#32) (fun k => probsN h₁ h₂ h₀ hr hu X (ix2 r k)) = _
  rw [ofBits_neg_inf, show (fun k => probsN h₁ h₂ h₀ hr hu X (ix2 r k)) = rowProb (rowOf X r) from funext fun k => probsN_apply _ _ _ _ _ _ hN r k]
  rfl

/-! ### Where the largest probability first stands -/

/-- A pair of a value and an index is at least as good as another: larger, or as large and not later. -/
def Better (a b : EReal × BitVec 32) : Prop := b.1 < a.1 ∨ (b.1 = a.1 ∧ a.2.toInt ≤ b.2.toInt)

/-- Every candidate is as good as itself. -/
theorem Better.refl (a : EReal × BitVec 32) : Better a a := .inr ⟨rfl, le_refl _⟩
/-- As good as is transitive. -/
theorem Better.trans {a b c : EReal × BitVec 32} (h : Better a b) (h' : Better b c) : Better a c := by
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

/-- The reference's reducer answers one of its two pairs, and that is at least as good as either. -/
theorem reducer_better (a b : EReal × BitVec 32) :
    (reducer_argmax_f32_i32 (F := Ideal) a b = a ∨ reducer_argmax_f32_i32 (F := Ideal) a b = b)
      ∧ Better (reducer_argmax_f32_i32 (F := Ideal) a b) a ∧ Better (reducer_argmax_f32_i32 (F := Ideal) a b) b := by
  obtain ⟨a1, a2⟩ := a
  obtain ⟨b1, b2⟩ := b
  have e : reducer_argmax_f32_i32 (F := Ideal) (a1, a2) (b1, b2)
      = if b1 < a1 ∨ (a1 = b1 ∧ a2.toInt < b2.toInt) then (a1, a2) else (b1, b2) := by
    unfold reducer_argmax_f32_i32
    simp only [Ideal.cmpf_def, Ideal.cmp, IntOp.ori, IntOp.andi, IntOp.cmpi, Scalar.select, BitVec.slt]
    rcases lt_trichotomy b1 a1 with h | h | h
    · simp [h, h.ne']
    · subst h
      by_cases hi : a2.toInt < b2.toInt <;> simp [hi]
    · simp [h.ne, not_lt_of_gt h]
  rw [e]
  split
  · rename_i h
    refine ⟨.inl rfl, Better.refl _, ?_⟩
    rcases h with h | ⟨h, hi⟩
    · exact .inl h
    · exact .inr ⟨h.symm, hi.le⟩
  · rename_i h
    refine ⟨.inr rfl, ?_, Better.refl _⟩
    rw [not_or, not_and, not_lt, not_lt] at h
    rcases h.1.lt_or_eq with h1 | h1
    · exact .inl h1
    · exact .inr ⟨h1, h.2 h1⟩

/-- Folded over a list, it answers the start or a pair of the list, at least as good as all of them. -/
theorem reducer_fold (l : List (EReal × BitVec 32)) (z : EReal × BitVec 32) :
    (l.foldl (reducer_argmax_f32_i32 (F := Ideal)) z = z ∨ l.foldl (reducer_argmax_f32_i32 (F := Ideal)) z ∈ l)
      ∧ Better (l.foldl (reducer_argmax_f32_i32 (F := Ideal)) z) z
      ∧ ∀ p ∈ l, Better (l.foldl (reducer_argmax_f32_i32 (F := Ideal)) z) p := by
  induction l generalizing z with
  | nil => exact ⟨.inl rfl, Better.refl _, fun p hp => absurd hp List.not_mem_nil⟩
  | cons a l ih =>
    obtain ⟨h1, h2, h3⟩ := ih (reducer_argmax_f32_i32 (F := Ideal) z a)
    obtain ⟨g1, g2, g3⟩ := reducer_better z a
    rw [List.foldl_cons]
    refine ⟨?_, h2.trans g2, fun p hp => ?_⟩
    · rcases h1 with h1 | h1
      · rcases g1 with g1 | g1
        · exact .inl (h1.trans g1)
        · exact .inr (List.mem_cons.mpr (.inl (h1.trans g1)))
      · exact .inr (List.mem_cons_of_mem _ h1)
    · rcases List.mem_cons.mp hp with rfl | hp
      · exact h2.trans g3
      · exact h3 p hp

/-- The reference's predictions. -/
def predN : IVec (⟨1, ![N]⟩ : Shape) 32 := fun j =>
  (Host.argReduce (reducer_argmax_f32_i32 (F := Ideal)) (probsN h₁ h₂ h₀ hr hu X) (iotaInDim ⟨2, ![N, 100]⟩ 32 1) (constant S_ .f32 0xFF800000#32)
    (constantI S_ 32 0#32) hr hu j).2

include hN in
/-- On a row of real maximum the prediction is the word of the place where the softmax is first largest. -/
theorem predN_apply (ht : rowTop (rowOf X r) ≠ ⊤) (hb : rowTop (rowOf X r) ≠ ⊥) :
    ∃ k : Fin 100, predN h₁ h₂ h₀ hr hu X (ix1 r) = BitVec.ofNat 32 k.val
      ∧ ∀ l, rowProb (rowOf X r) l < rowProb (rowOf X r) k ∨ (rowProb (rowOf X r) l = rowProb (rowOf X r) k ∧ k ≤ l) := by
  unfold predN
  rw [Ideal.argReduce_eq_reduce2, Host.reduce2_eq_foldl_fiber]
  show ∃ k : Fin 100, (List.foldl _ (Ideal.ofBits .f32 0xFF800000#32, 0#32) _).2 = _ ∧ _
  rw [ofBits_neg_inf]
  generalize hl : Host.argReduceFiber (probsN h₁ h₂ h₀ hr hu X) (iotaInDim ⟨2, ![N, 100]⟩ 32 1) hr (ix1 r) = l
  have hmem : ∀ p : EReal × BitVec 32, p ∈ l ↔ ∃ k : Fin 100, p = (rowProb (rowOf X r) k, BitVec.ofNat 32 k.val) := by
    intro p
    rw [← hl, Host.argReduceFiber, List.mem_map]
    constructor
    · rintro ⟨n, hn, rfl⟩
      obtain ⟨k, hk⟩ := (hr.fiber_r2_a1 (ix1 r) _).mp (of_decide_eq_true (List.mem_filter.mp hn).2)
      refine ⟨k, ?_⟩
      rw [← hk]
      exact Prod.ext (probsN_apply h₁ h₂ h₀ hr hu X hN r k) rfl
    · rintro ⟨k, rfl⟩
      refine ⟨(⟨2, ![N, 100]⟩ : Shape).rowMajor (ix2 r k), List.mem_filter.mpr ⟨List.mem_finRange _, decide_eq_true ?_⟩, ?_⟩
      · rw [Equiv.symm_apply_apply]
        exact (hr.fiber_r2_a1 (ix1 r) _).mpr ⟨k, rfl⟩
      · rw [Equiv.symm_apply_apply]
        exact Prod.ext (probsN_apply h₁ h₂ h₀ hr hu X hN r k) rfl
  obtain ⟨h1, -, h3⟩ := reducer_fold l (⊥, 0#32)
  have hres : List.foldl (reducer_argmax_f32_i32 (F := Ideal)) (⊥, 0#32) l ∈ l := by
    refine h1.resolve_left fun h => ?_
    have hz := h3 _ ((hmem _).mpr ⟨0, rfl⟩)
    rw [h] at hz
    rcases hz with hz | ⟨hz, -⟩
    · exact not_lt_bot hz
    · exact row_prob_ne_bot _ ht hb 0 hz
  obtain ⟨k, hk⟩ := (hmem _).mp hres
  rw [hk] at h3 ⊢
  refine ⟨k, rfl, fun j => ?_⟩
  have hi : ∀ q : Fin 100, (BitVec.ofNat 32 q.val).toInt = q.val := fun q => by
    have := q.isLt
    rw [BitVec.toInt_eq_toNat_of_lt (by simp; omega)]
    simp; omega
  rcases h3 _ ((hmem _).mpr ⟨j, rfl⟩) with h | ⟨h, h'⟩
  · exact .inl h
  · refine .inr ⟨h, ?_⟩
    dsimp only at h'
    rw [hi, hi] at h'
    exact_mod_cast h'

end Shapes

variable (X : FVec Ideal S1000000x100 .f32)

/-- The reference's confidences are those stated for any number of rows, at a million rows. -/
theorem refConf_eq : refConf (F := Ideal) X = confN (N := 1000000) Facts₀.bcast_S1000000_S1000000x1_0 Facts₀.bcast_S1000000x1_S1000000x100_0_1
    Facts₀.bcast_S_S1000000 Facts₀.reducesTo_S1000000x100_S1000000_d1 Facts₀.h_S_ X := rfl

/-- So are its predictions. -/
theorem refPred_eq : refPred (F := Ideal) X = predN (N := 1000000) Facts₀.bcast_S1000000_S1000000x1_0 Facts₀.bcast_S1000000x1_S1000000x100_0_1
    Facts₀.bcast_S_S1000000 Facts₀.reducesTo_S1000000x100_S1000000_d1 Facts₀.h_S_ X := rfl

end Cert.EceRef
-- ==== Proof.RefBins.lean ====
/-
  The reference's result over the extended reals: the sum over the fifteen bins of what each adds, from the bin's
  count, its sum of confidences and its number of correct predictions.
-/
module

public import proofs.«01_k».proof.Proof.RefRows

@[expose] public section

noncomputable section

namespace Cert.EceRef

open Cert.ReferenceIdeal Cert.Ece
open Idealize.ShloMosaic

/-- What a bin adds to the result. -/
def binVal (cnt con acc : EReal) : EReal :=
  if 0 < cnt then
    max (Ideal.div con (max cnt 1) - Ideal.div acc (max cnt 1)) (-(Ideal.div con (max cnt 1) - Ideal.div acc (max cnt 1)))
      * Ideal.div cnt (Ideal.ofBits .f32 0x49742400#32)
  else 0

/-- Equal sums make equal contributions. -/
theorem binVal_congr {a a' b b' c c' : EReal} (ha : a = a') (hb : b = b') (hc : c = c') : binVal a b c = binVal a' b' c' := by
  rw [ha, hb, hc]

/-- The bounds of the bins. -/
def boundVal (i : Fin 16) : EReal := Ideal.ofBits .f32 (bound i)

/-- No bound is infinite. -/
theorem boundVal_ne_top (i : Fin 16) : boundVal i ≠ ⊤ :=
  ofBits_ne_top _ ((by decide : ∀ i : Fin 16, ((bound i).extractLsb' 23 8).toNat ≠ 255) i)

/-- The reference's operations on a bin's three sums give the bin's contribution. -/
theorem binTerm_apply (cnt con acc : FVec Ideal S_ .f32) (j : S_.Idx) :
    binTerm (F := Ideal) cnt con acc j = binVal (cnt j) (con j) (acc j) := by
  unfold binTerm binVal
  show Scalar.select (Ideal.cmp .ogt (cnt j) (Ideal.ofBits .f32 0x00000000#32))
    (max (Ideal.div (con j) (max (cnt j) (Ideal.ofBits .f32 0x3F800000#32)) - Ideal.div (acc j) (max (cnt j) (Ideal.ofBits .f32 0x3F800000#32)))
      (-(Ideal.div (con j) (max (cnt j) (Ideal.ofBits .f32 0x3F800000#32)) - Ideal.div (acc j) (max (cnt j) (Ideal.ofBits .f32 0x3F800000#32))))
      * Ideal.div (cnt j) (Ideal.ofBits .f32 0x49742400#32)) (Ideal.ofBits .f32 0x00000000#32) = _
  rw [Ideal.ofBits_zero_f32, Ideal.ofBits_one_f32]
  by_cases h : 0 < cnt j <;> simp [Ideal.cmp, Scalar.select, h]

section Shapes

variable {N : ℕ} (h₀ : S_.BroadcastsInDim (⟨1, ![N]⟩ : Shape) (![] : Fin 0 → Fin 1)) (hs : (⟨1, ![N]⟩ : Shape).ReducesTo [0] S_) (hu : 0 < S_.numel)

/-- The rows of a bin as zeros and ones, -/
def maskN (lo hi : BitVec 32) (conf : FVec Ideal (⟨1, ![N]⟩ : Shape) .f32) : FVec Ideal (⟨1, ![N]⟩ : Shape) .f32 :=
  uitofp .f32 (andi (cmpf .ogt conf (broadcastInDim ⟨1, ![N]⟩ ![] h₀ (constant S_ .f32 lo)))
    (cmpf .ole conf (broadcastInDim ⟨1, ![N]⟩ ![] h₀ (constant S_ .f32 hi))))

/-- the sum of a vector, -/
def sumN (x : FVec Ideal (⟨1, ![N]⟩ : Shape) .f32) : FVec Ideal S_ .f32 := Host.reduceAdd x (constant S_ .f32 0x00000000#32) hs hu

/-- the sum over the rows of a bin, -/
def sumIn (lo hi : BitVec 32) (conf x : FVec Ideal (⟨1, ![N]⟩ : Shape) .f32) : FVec Ideal S_ .f32 :=
  sumN hs hu (mulf x (maskN h₀ lo hi conf))

/-- and the accuracies of the rows. -/
def corrN (p L : IVec (⟨1, ![N]⟩ : Shape) 32) : FVec Ideal (⟨1, ![N]⟩ : Shape) .f32 := uitofp .f32 (cmpi .eq p L)

/-- A comparison's bit as a number is one where the comparison holds and zero elsewhere. -/
theorem bit_value (p : Prop) [Decidable p] : (((BitVec.ofBool (decide p)).toNat : ℝ) : EReal) = if p then 1 else 0 := by
  by_cases h : p <;> simp [h]

/-- The mask of a bin is one at the rows whose confidence lies in it and zero elsewhere. -/
theorem maskN_apply (lo hi : BitVec 32) (conf : FVec Ideal (⟨1, ![N]⟩ : Shape) .f32) (r : Fin N) :
    maskN h₀ lo hi conf (ix1 r) = if Ideal.ofBits .f32 lo < conf (ix1 r) ∧ conf (ix1 r) ≤ Ideal.ofBits .f32 hi then (1 : EReal) else 0 := by
  unfold maskN
  show (((BitVec.ofBool (decide (Ideal.ofBits .f32 lo < conf (ix1 r))) &&& BitVec.ofBool (decide (conf (ix1 r) ≤ Ideal.ofBits .f32 hi))).toNat : ℝ) : EReal) = _
  rw [← bit_value]
  by_cases h : Ideal.ofBits .f32 lo < conf (ix1 r) <;> by_cases h' : conf (ix1 r) ≤ Ideal.ofBits .f32 hi <;> simp [h, h']

/-- The indicator of correct predictions is one where prediction and label agree and zero elsewhere. -/
theorem corrN_apply (p L : IVec (⟨1, ![N]⟩ : Shape) 32) (r : Fin N) :
    corrN p L (ix1 r) = if p (ix1 r) = L (ix1 r) then (1 : EReal) else 0 := by
  unfold corrN
  rw [← bit_value]
  rfl

/-- The reduction of a vector is the sum of its entries. -/
theorem sumN_apply (x : FVec Ideal (⟨1, ![N]⟩ : Shape) .f32) (j : S_.Idx) : sumN hs hu x j = ∑ r : Fin N, (x (ix1 r) : EReal) := by
  unfold sumN
  rw [reduceAll_apply]
  show Ideal.ofBits .f32 0x00000000#32 + _ = _
  rw [Ideal.ofBits_zero_f32, zero_add]

/-- The reduction of a masked vector is the sum of its entries times the mask. -/
theorem sumIn_apply (lo hi : BitVec 32) (conf x : FVec Ideal (⟨1, ![N]⟩ : Shape) .f32) (j : S_.Idx) :
    sumIn h₀ hs hu lo hi conf x j = ∑ r : Fin N, (x (ix1 r) : EReal) * maskN h₀ lo hi conf (ix1 r) := by
  unfold sumIn
  rw [sumN_apply]
  rfl

/-- The accumulator after a bin. -/
def stepN (hb : S_.BroadcastsInDim S1 (![] : Fin 0 → Fin 1)) (lo hi : BitVec 32) (conf corr : FVec Ideal (⟨1, ![N]⟩ : Shape) .f32)
    (prev : FVec Ideal S1 .f32) : FVec Ideal S1 .f32 :=
  addf prev (broadcastInDim S1 ![] hb (binTerm (F := Ideal) (sumN hs hu (maskN h₀ lo hi conf)) (sumIn h₀ hs hu lo hi conf conf)
    (sumIn h₀ hs hu lo hi conf corr)))

/-- One bin's operations add the bin's contribution to the accumulator. -/
theorem stepN_apply (hb : S_.BroadcastsInDim S1 (![] : Fin 0 → Fin 1)) (lo hi : BitVec 32) (conf corr : FVec Ideal (⟨1, ![N]⟩ : Shape) .f32)
    (prev : FVec Ideal S1 .f32) (j : S1.Idx) :
    stepN h₀ hs hu hb lo hi conf corr prev j = (prev j : EReal)
      + binVal (∑ r : Fin N, maskN h₀ lo hi conf (ix1 r)) (∑ r : Fin N, (conf (ix1 r) : EReal) * maskN h₀ lo hi conf (ix1 r))
          (∑ r : Fin N, (corr (ix1 r) : EReal) * maskN h₀ lo hi conf (ix1 r)) := by
  unfold stepN
  show (prev j : EReal) + binTerm (F := Ideal) _ _ _ _ = _
  rw [binTerm_apply, sumN_apply, sumIn_apply, sumIn_apply]

end Shapes

/-- The reference's bin is the one stated for any number of rows, at a million rows. -/
theorem binStep_eq (lo hi : BitVec 32) (conf corr : FVec Ideal S1000000 .f32) (prev : FVec Ideal S1 .f32) :
    binStep (F := Ideal) lo hi conf corr prev
      = stepN (N := 1000000) Facts₀.bcast_S_S1000000 Facts₀.reducesTo_S1000000_S_d0 Facts₀.h_S_ Facts₀.bcast_S_S1 lo hi conf corr prev := rfl

/-- So is its indicator of correct predictions. -/
theorem refCorr_eq (X : FVec Ideal S1000000x100 .f32) (L : IVec S1000000 32) :
    refCorr (F := Ideal) X L = corrN (N := 1000000) (refPred (F := Ideal) X) L := rfl

variable (X : FVec Ideal S1000000x100 .f32) (L : IVec S1000000 32)

/-- A row's label as a real number. -/
def labOf (L : IVec S1000000 32) (r : Fin 1000000) : EReal := (((L (ix1 r)).toInt : ℝ) : EReal)

/-- What bin `i` adds, by the contributions of its rows. -/
def binOf (X : FVec Ideal S1000000x100 .f32) (L : IVec S1000000 32) (i : Fin 15) : EReal :=
  binVal (∑ r : Fin 1000000, rowCnt (boundVal i.castSucc) (boundVal i.succ) (rowOf (N := 1000000) X r))
    (∑ r : Fin 1000000, rowCon (boundVal i.castSucc) (boundVal i.succ) (rowOf (N := 1000000) X r))
    (∑ r : Fin 1000000, rowAcc (boundVal i.castSucc) (boundVal i.succ) (rowOf (N := 1000000) X r) (labOf L r))

/-- The mask at a row, by the row's logits. -/
theorem mask_row (i : Fin 15) (r : Fin 1000000) :
    maskN (N := 1000000) Facts₀.bcast_S_S1000000 (bound i.castSucc) (bound i.succ) (refConf (F := Ideal) X) (ix1 r)
      = rowMask (boundVal i.castSucc) (boundVal i.succ) (rowOf (N := 1000000) X r) := by
  rw [maskN_apply, refConf_eq, confN_apply _ _ _ _ _ _ (by norm_num)]
  rfl

/-- The accumulator after a bin is the accumulator before plus what the bin adds. -/
theorem binStep_apply (i : Fin 15) (prev : FVec Ideal S1 .f32) (j : S1.Idx) :
    binStep (F := Ideal) (bound i.castSucc) (bound i.succ) (refConf (F := Ideal) X) (refCorr (F := Ideal) X L) prev j
      = (prev j : EReal) + binOf X L i := by
  rw [binStep_eq, stepN_apply]
  unfold binOf
  refine congrArg (prev j + ·) (binVal_congr (Finset.sum_congr rfl fun r _ => ?_) (Finset.sum_congr rfl fun r _ => ?_)
    (Finset.sum_congr rfl fun r _ => ?_)) <;> rw [mask_row]
  · exact (rowCnt_eq _ _ (boundVal_ne_top _) _).symm
  · rw [rowCon_eq _ _ (boundVal_ne_top _), refConf_eq, confN_apply _ _ _ _ _ _ (by norm_num)]
  · rw [refCorr_eq, corrN_apply, refPred_eq]
    exact (rowAcc_eq _ _ (boundVal_ne_top _) _ _ _ fun h1 h2 => predN_apply _ _ _ _ _ X (by norm_num) r h1 h2).symm

/-- The accumulator after the first `n` bins. -/
theorem refAcc_apply (n : ℕ) (hn : n ≤ 15) (j : S1.Idx) :
    refAcc (F := Ideal) (refConf (F := Ideal) X) (refCorr (F := Ideal) X L) n j
      = ∑ i : Fin n, binOf X L ⟨i.val, lt_of_lt_of_le i.isLt hn⟩ := by
  induction n with
  | zero =>
    show Ideal.ofBits .f32 0x00000000#32 = _
    rw [Ideal.ofBits_zero_f32, Fin.sum_univ_zero]
  | succ n ih =>
    rw [refAcc, dif_pos (by omega), binStep_apply, ih (by omega), Fin.sum_univ_castSucc]
    rfl

/-- The reference's result is the sum over the bins. -/
theorem refResult_apply (j : S1.Idx) : refResult (F := Ideal) X L j = ∑ i : Fin 15, binOf X L i := by
  unfold refResult
  exact refAcc_apply X L 15 (le_refl _) j

end Cert.EceRef
-- ==== Proof.KernelReads.lean ====
/-
  What a grid point of the histogram pipeline reads, by the buffers at the pipeline's start, and what those buffers
  hold by the arguments: point `t` reads the rows `4000 t … 4000 t + 3999` of the logits and of the labels.
-/
module

public import proofs.«01_k».proof.Proof.Run
public import proofs.«01_k».proof.Proof.RefBins
public import Idealize.ShloMosaic.Lib.Pipeline.ValueKit
public import Idealize.ShloMosaic.Lib.Pointwise

@[expose] public section

set_option maxRecDepth 16384

noncomputable section

namespace Cert.Ece

open Cert.KernelIdeal Cert.KernelIdeal.Gen
open Idealize.ShloMosaic Idealize.ShloMosaic.TcCoe

/-- Point `t` is given block `t` of the logits, -/
theorem index0_0 : ∀ t : Fin grid0.N, win0_0.index t = ![t.val, 0] := by decide +kernel
/-- the block of eight rows of labels that row `t` lies in, -/
theorem index0_1 : ∀ t : Fin grid0.N, win0_1.index t = ![t.val / 8, 0] := by decide +kernel
/-- and the one block of the table; -/
theorem index0_2 : ∀ t : Fin grid0.N, win0_2.index t = ![0, 0] := by decide +kernel
/-- it reads of its labels' block the row that `t` has there. -/
theorem off1 : ∀ t : Fin grid0.N, k0_off1 (grid0.coords t) = ![t.val % 8, 0] := by decide +kernel

section Blocks

variable (V : Valuation τ sig (Elt Ideal)) (t : Fin grid0.N)

/-- Row `r` of the block of logits of point `t` is row `4000 t + r` of the array. -/
theorem xBlk_apply (r : Fin 4000) (k : Fin 100) (h) : xBlk V t (ix2 r k) = V main_arg0 (ix2 ⟨t.val * 4000 + r.val, h⟩ k) := by
  unfold xBlk
  blk_ext [index0_0 t]

/-- Every point reads the whole table of bounds. -/
theorem tabBlk_apply (a : Fin 2) (k : Fin 15) : tabBlk V t (ix2 a k) = V main_cst (ix2 a k) := by
  unfold tabBlk
  blk_ext [index0_2 t]

/-- The row of labels that point `t` reads is row `t` of their array. -/
theorem labRow_apply (r : Fin 4000) (h) : labelRow (grid0.coords t) (labBlk V t) (ix2 0 r) = V main_v1 (ix2 ⟨t.val, h⟩ r) := by
  unfold labelRow labBlk labPart
  show win0_1.fill _ _ _ _ = _
  unfold Pipeline.Window.fill
  rw [dif_pos (row_moved t _)]
  blk_ext [index0_1 t, off1 t]
  · show t.val / 8 * 8 + (k0_off1 (grid0.coords t) 0 + 1 * 0) = t.val
    rw [off1 t]
    show t.val / 8 * 8 + (t.val % 8 + 1 * 0) = t.val
    omega
  · show k0_off1 (grid0.coords t) 1 + 1 * r.val = r.val
    rw [off1 t]
    show 0 + 1 * r.val = r.val
    omega

end Blocks

/-- A vector seen as rows of length `b`: entry `(i, j)` is the vector's entry `b i + j`. -/
theorem rows_apply {a b n : ℕ} (x : (⟨1, ![n]⟩ : Shape).Idx → EReal) (h : (⟨1, ![n]⟩ : Shape).ShapeCasts ⟨2, ![a, b]⟩)
    (i : Fin a) (j : Fin b) (hn : i.val * b + j.val < n) :
    shapeCast ⟨2, ![a, b]⟩ x h (ix2 i j) = x (ix1 ⟨i.val * b + j.val, hn⟩) := by
  show x _ = _
  refine congrArg x (Shape.reshapeEquiv_eq_of_rowMajor _ ?_)
  rw [Shape.rowMajor_val_two, Shape.rowMajor_val_one]
  rfl

/-- The table of bounds holds each bin's lower bound in row 0, -/
theorem table_lo : ∀ j : Fin 15, lit0 (S2x15.rowMajor (ix2 0 j)) = EceRef.bound j.castSucc := by decide +kernel
/-- and its upper bound in row 1. -/
theorem table_hi : ∀ j : Fin 15, lit0 (S2x15.rowMajor (ix2 1 j)) = EceRef.bound j.succ := by decide +kernel

section Host

variable (m : (ℓ : Loc nD τ sig) → Buf (Elt Ideal) ℓ) (c : Dev nD)

/-- The histogram pipeline starts with the logits as launched, -/
theorem W1_logits : W1 m c main_arg0 = m ((c : Thread nD τ).loc main_arg0) := by
  unfold W1 V0 hostOps0
  after_reads_simp
/-- the table of bounds as the program spells it, -/
theorem W1_table : W1 m c main_cst = (fun i => Ideal.ofBits .f32 (lit0 (S2x15.rowMajor i)) : Vec Ideal S2x15 .f32) := by
  unfold W1 V0 hostOps0
  after_reads_simp
  rfl
/-- and the labels turned into numbers and laid out in rows. -/
theorem W1_labels : W1 m c main_v1
    = (shapeCast S250x4000 (sitofp (F := Ideal) .f32 (m ((c : Thread nD τ).loc main_arg1) : Vec Ideal S1000000 .i32)) shapeCasts_S1000000_S250x4000 : Vec Ideal S250x4000 .f32) := by
  unfold W1 V0 hostOps0
  after_reads_simp
  rfl

/-- The histogram pipeline starts with bin `j`'s bounds in column `j` of the table, -/
theorem W1_lo (j : Fin 15) : (W1 m c main_cst : Vec Ideal S2x15 .f32) (ix2 0 j) = EceRef.boundVal j.castSucc := by
  rw [W1_table]
  exact congrArg (Ideal.ofBits .f32) (table_lo j)
/-- and bin `j`'s upper bound below its lower one, -/
theorem W1_hi (j : Fin 15) : (W1 m c main_cst : Vec Ideal S2x15 .f32) (ix2 1 j) = EceRef.boundVal j.succ := by
  rw [W1_table]
  exact congrArg (Ideal.ofBits .f32) (table_hi j)
/-- and with the labels, read as numbers, in rows of 4000. -/
theorem W1_lab (i : Fin 250) (r : Fin 4000) (h) : (W1 m c main_v1 : Vec Ideal S250x4000 .f32) (ix2 i r)
    = EceRef.labOf (m ((c : Thread nD τ).loc main_arg1)) ⟨i.val * 4000 + r.val, h⟩ := by
  rw [W1_labels]
  refine (rows_apply _ _ i r h).trans ?_
  rfl

end Host

end Cert.Ece
-- ==== Proof.BlockSums.lean ====
/-
  What one block of the histogram kernel adds, over the extended reals: the sums over its 4000 rows of what each row
  adds to each bin.
-/
module

public import proofs.«01_k».proof.Proof.HistBody
public import proofs.«01_k».proof.Proof.RowMath
public import Idealize.ShloMosaic.Lib.Pointwise

@[expose] public section

set_option maxRecDepth 16384

noncomputable section

namespace Cert.Ece

open Cert.KernelIdeal Cert.KernelIdeal.Gen
open Idealize.ShloMosaic

/-- A choice by two bits is a choice by the two propositions behind them. -/
theorem select_both (p q : Prop) [Decidable p] [Decidable q] (a b : EReal) :
    Scalar.select (IntOp.andi (BitVec.ofBool (decide p)) (BitVec.ofBool (decide q))) a b = if p ∧ q then a else b := by
  by_cases hp : p <;> by_cases hq : q <;> simp [Scalar.select, IntOp.andi, hp, hq]

/-- A bit read as a real number. -/
theorem bit_real (p : Prop) [Decidable p] :
    (FloatOps.sitofp .f32 (BitVec.setWidth 32 (BitVec.ofBool (decide p))) : Ideal .f32) = if p then (1 : EReal) else 0 := by
  show (((BitVec.setWidth 32 (BitVec.ofBool (decide p))).toInt : ℝ) : EReal) = _
  by_cases h : p <;> simp [h]

/-- A column's number as a real number. -/
theorem column_real (k : Fin 100) : (FloatOps.sitofp .f32 (BitVec.ofNat 32 k.val) : Ideal .f32) = ((k.val : ℝ) : EReal) := by
  show (((BitVec.ofNat 32 k.val).toInt : ℝ) : EReal) = _
  have hi : (BitVec.ofNat 32 k.val).toInt = k.val := by
    have := k.isLt
    rw [BitVec.toInt_eq_toNat_of_lt (by simp; omega)]
    simp; omega
  rw [hi]
  rfl

variable (X : Vec Ideal S4000x100 .f32) (T : Vec Ideal S2x15 .f32) (v : Vec Ideal S1x4000 .f32) (A : Vec Ideal S1x1x15 .f32) (j : Fin 15)

/-- A row of a block of logits. -/
def blockRow (X : Vec Ideal S4000x100 .f32) (r : Fin 4000) : Fin 100 → EReal := fun k => X (ix2 r k)

/-- One step adds to bin `j`'s count what the block's rows add to it, -/
theorem cntStep_apply : cntStep X T A (ix3 0 0 j)
    = (A (ix3 0 0 j) : EReal) + ∑ r : Fin 4000, rowCnt (T (ix2 0 j)) (T (ix2 1 j)) (blockRow X r) := by
  unfold cntStep loRow hiRow
  pointwise [k0_pay10, k0_pay8, k0_pay6, k0_pay5]
  simp only [select_both, ofBits_neg_inf]
  rfl

/-- to its sum of confidences what they add to that, -/
theorem confStep_apply : confStep X T A (ix3 0 0 j)
    = (A (ix3 0 0 j) : EReal) + ∑ r : Fin 4000, rowCon (T (ix2 0 j)) (T (ix2 1 j)) (blockRow X r) := by
  unfold confStep loRow hiRow
  pointwise [k0_pay11, k0_pay8, k0_pay6, k0_pay5]
  simp only [select_both, ofBits_neg_inf]
  rfl

/-- and to its number of correct predictions what they add to that. -/
theorem accStep_apply : accStep X v T A (ix3 0 0 j)
    = (A (ix3 0 0 j) : EReal) + ∑ r : Fin 4000, rowAcc (T (ix2 0 j)) (T (ix2 1 j)) (blockRow X r) (v (ix2 0 r)) := by
  unfold accStep loRow hiRow
  pointwise [k0_pay1, k0_pay9, k0_pay7, k0_pay8, k0_pay6, k0_pay5]
  simp only [select_both, bit_real, column_real, ofBits_neg_inf, ofBits_pos_inf, ofBits_hundred]
  rfl

/-- An accumulator starts at zero. -/
theorem start_zero : k0_pay2 (F := Ideal) (ix3 0 0 j) = (0 : EReal) ∧ k0_pay3 (F := Ideal) (ix3 0 0 j) = (0 : EReal)
    ∧ k0_pay4 (F := Ideal) (ix3 0 0 j) = (0 : EReal) :=
  ⟨Ideal.ofBits_zero_f32, Ideal.ofBits_zero_f32, Ideal.ofBits_zero_f32⟩

end Cert.Ece
-- ==== Proof.KernelSums.lean ====
/-
  The three accumulators of the histogram pipeline as sums over the rows: after the last of the 125 points of half `q`
  each holds, for every bin, the sum of the contributions of the rows of that half.
-/
module

public import proofs.«01_k».proof.Proof.KernelReads
public import proofs.«01_k».proof.Proof.BlockSums

@[expose] public section

set_option maxRecDepth 16384

noncomputable section

namespace Cert.Ece

open Cert.KernelIdeal Cert.KernelIdeal.Gen
open Idealize.ShloMosaic Idealize.ShloMosaic.TcCoe
open Finset (range)
open EceRef (boundVal labOf rowOf)

/-- `g` on the natural numbers, zero past its end. -/
def spread {N : ℕ} (g : Fin N → EReal) (n : ℕ) : EReal := if h : n < N then g ⟨n, h⟩ else 0

/-- Within its range the spread function is the function. -/
theorem spread_of_lt {N : ℕ} (g : Fin N → EReal) (n : ℕ) (h : n < N) : spread g n = g ⟨n, h⟩ := dif_pos h

/-- A sum over the range is the sum over the index type. -/
theorem sum_spread {N : ℕ} (g : Fin N → EReal) : ∑ n ∈ range N, spread g n = ∑ r : Fin N, g r := by
  rw [Finset.sum_range]
  exact Finset.sum_congr rfl fun r _ => spread_of_lt g r.val r.isLt

/-- A sum over `a b` numbers, `b` at a time. -/
theorem sum_blocks (f : ℕ → EReal) (a b : ℕ) : ∑ n ∈ range (a * b), f n = ∑ i ∈ range a, ∑ j ∈ range b, f (i * b + j) := by
  induction a with
  | zero => simp
  | succ a ih => rw [Nat.succ_mul, Finset.sum_range_add, ih, Finset.sum_range_succ]

/-- A sum over all rows is the sum over the halves, their blocks, and each block's rows. -/
theorem sum_rows {N : ℕ} (g : Fin N → EReal) (a b d : ℕ) (hN : N = a * b * d) :
    ∑ r : Fin N, g r = ∑ q ∈ range a, ∑ i ∈ range b, ∑ r ∈ range d, spread g ((q * b + i) * d + r) := by
  refine (sum_spread g).symm.trans ((congrArg (fun n => ∑ i ∈ range n, spread g i) hN).trans ?_)
  rw [sum_blocks _ (a * b) d, sum_blocks _ a b]

/-- An accumulator to which every point adds its term holds, at the last point of a half, the sum of the half's terms. -/
theorem fold125_sum {A I : Type} (read : A → I → EReal) (step : ℕ → A → A) (z : A) (x : I) (term : ℕ → EReal) (hz : read z x = 0)
    (hs : ∀ n, n < 250 → ∀ a, read (step n a) x = read a x + term n) (q : ℕ) (hq : q < 2) : ∀ k, k < 125 →
    read (fold125 step z (q * 125 + k)) x = ∑ i ∈ range (k + 1), term (q * 125 + i)
  | 0, _ => by
    rw [fold125_reset _ _ _ (by omega), hs _ (by omega), hz, zero_add, Finset.sum_range_one]
  | k + 1, hk => by
    rw [fold125_acc _ _ _ (by omega), hs _ (by omega), Finset.sum_range_succ, show q * 125 + (k + 1) - 1 = q * 125 + k by omega,
      fold125_sum read step z x term hz hs q hq k (by omega)]

section Terms

variable (m : (ℓ : Loc nD τ sig) → Buf (Elt Ideal) ℓ) (c : Dev nD) (j : Fin 15)

/-- The logits at the launch. -/
abbrev logits : FVec Ideal S1000000x100 .f32 := m ((c : Thread nD τ).loc main_arg0)
/-- The labels at the launch. -/
abbrev labels : IVec S1000000 32 := m ((c : Thread nD τ).loc main_arg1)

/-- What row `r` adds to bin `j`'s count, -/
def cntOf (r : Fin 1000000) : EReal := rowCnt (boundVal j.castSucc) (boundVal j.succ) (rowOf (N := 1000000) (logits m c) r)
/-- to its sum of confidences, -/
def conOf (r : Fin 1000000) : EReal := rowCon (boundVal j.castSucc) (boundVal j.succ) (rowOf (N := 1000000) (logits m c) r)
/-- and to its number of correct predictions. -/
def accOf (r : Fin 1000000) : EReal :=
  rowAcc (boundVal j.castSucc) (boundVal j.succ) (rowOf (N := 1000000) (logits m c) r) (labOf (labels m c) r)

/-- A row of a point's block, as a row of the launched logits. -/
theorem blockRow_eq (t : Fin grid0.N) (r : Fin 4000) (h) :
    blockRow (xBlk (W1 m c) t) r = rowOf (N := 1000000) (logits m c) ⟨t.val * 4000 + r.val, h⟩ := by
  funext k
  refine (xBlk_apply (W1 m c) t r k h).trans ?_
  rw [W1_logits]
  rfl

/-- The rows of a point's block are rows of the array. -/
theorem row_lt (t : Fin grid0.N) (r : Fin 4000) : t.val * 4000 + r.val < 1000000 := by
  have h : t.val < 250 := t.isLt
  have := r.isLt
  omega

/-- An entry of a point's row of labels, as a launched label read as a number. -/
theorem labRow_eq (t : Fin grid0.N) (r : Fin 4000) (h) :
    labelRow (grid0.coords t) (labBlk (W1 m c) t) (ix2 0 r) = labOf (labels m c) ⟨t.val * 4000 + r.val, h⟩ :=
  (labRow_apply (W1 m c) t r t.isLt).trans (W1_lab m c ⟨t.val, t.isLt⟩ r h)

/-- Point `n` adds to bin `j`'s count what its 4000 rows add to it, -/
theorem cntAt_apply (n : ℕ) (hn : n < 250) (A : Vec Ideal S1x1x15 .f32) :
    cntAt (W1 m c) n A (ix3 0 0 j) = A (ix3 0 0 j) + ∑ r ∈ range 4000, spread (cntOf m c j) (n * 4000 + r) := by
  unfold cntAt
  rw [dif_pos (show n < grid0.N from hn), cntStep_apply, Finset.sum_range]
  refine congrArg (A (ix3 0 0 j) + ·) (Finset.sum_congr rfl fun r _ => ?_)
  rw [spread_of_lt _ _ (row_lt ⟨n, hn⟩ r), blockRow_eq m c _ r (row_lt ⟨n, hn⟩ r), tabBlk_apply, tabBlk_apply, W1_lo, W1_hi]
  rfl

/-- to its sum of confidences what they add to that, -/
theorem confAt_apply (n : ℕ) (hn : n < 250) (A : Vec Ideal S1x1x15 .f32) :
    confAt (W1 m c) n A (ix3 0 0 j) = A (ix3 0 0 j) + ∑ r ∈ range 4000, spread (conOf m c j) (n * 4000 + r) := by
  unfold confAt
  rw [dif_pos (show n < grid0.N from hn), confStep_apply, Finset.sum_range]
  refine congrArg (A (ix3 0 0 j) + ·) (Finset.sum_congr rfl fun r _ => ?_)
  rw [spread_of_lt _ _ (row_lt ⟨n, hn⟩ r), blockRow_eq m c _ r (row_lt ⟨n, hn⟩ r), tabBlk_apply, tabBlk_apply, W1_lo, W1_hi]
  rfl

/-- and to its number of correct predictions what they add to that. -/
theorem accAt_apply (n : ℕ) (hn : n < 250) (A : Vec Ideal S1x1x15 .f32) :
    accAt (W1 m c) n A (ix3 0 0 j) = A (ix3 0 0 j) + ∑ r ∈ range 4000, spread (accOf m c j) (n * 4000 + r) := by
  unfold accAt
  rw [dif_pos (show n < grid0.N from hn), accStep_apply, Finset.sum_range]
  refine congrArg (A (ix3 0 0 j) + ·) (Finset.sum_congr rfl fun r _ => ?_)
  rw [spread_of_lt _ _ (row_lt ⟨n, hn⟩ r), blockRow_eq m c _ r (row_lt ⟨n, hn⟩ r), tabBlk_apply, tabBlk_apply, W1_lo, W1_hi,
    labRow_eq m c ⟨n, hn⟩ r (row_lt ⟨n, hn⟩ r)]
  rfl

/-- The rows' contributions of half `q`, block by block. -/
def halfSum (g : Fin 1000000 → EReal) (q : ℕ) : EReal := ∑ i ∈ range 125, ∑ r ∈ range 4000, spread g ((q * 125 + i) * 4000 + r)

/-- The two halves together are all rows. -/
theorem sum_halves (g : Fin 1000000 → EReal) : ∑ q : Fin 2, halfSum g q.val = ∑ r : Fin 1000000, g r := by
  rw [sum_rows g 2 125 4000 (by norm_num), Finset.sum_range]
  rfl

variable (q : ℕ) (hq : q < 2)

include hq in
/-- After the last point of half `q` the counts are the half's, -/
theorem cnt_half : fold125 (cntAt (W1 m c)) (k0_pay2 (F := Ideal)) (q * 125 + 124) (ix3 0 0 j) = halfSum (cntOf m c j) q :=
  fold125_sum (fun a x => a x) (cntAt (W1 m c)) (k0_pay2 (F := Ideal)) (ix3 0 0 j) _ (start_zero j).1 (cntAt_apply m c j) q hq 124 (by omega)
include hq in
/-- the sums of confidences are the half's, -/
theorem con_half : fold125 (confAt (W1 m c)) (k0_pay3 (F := Ideal)) (q * 125 + 124) (ix3 0 0 j) = halfSum (conOf m c j) q :=
  fold125_sum (fun a x => a x) (confAt (W1 m c)) (k0_pay3 (F := Ideal)) (ix3 0 0 j) _ (start_zero j).2.1 (confAt_apply m c j) q hq 124 (by omega)
include hq in
/-- and the numbers of correct predictions are the half's. -/
theorem acc_half : fold125 (accAt (W1 m c)) (k0_pay4 (F := Ideal)) (q * 125 + 124) (ix3 0 0 j) = halfSum (accOf m c j) q :=
  fold125_sum (fun a x => a x) (accAt (W1 m c)) (k0_pay4 (F := Ideal)) (ix3 0 0 j) _ (start_zero j).2.2 (accAt_apply m c j) q hq 124 (by omega)

end Terms

end Cert.Ece
-- ==== Proof.KernelValue.lean ====
/-
  The kernel's result by its arguments: the combining pipeline's one number is the reference's.
-/
module

public import proofs.«01_k».proof.Proof.KernelSums

@[expose] public section

set_option maxRecDepth 16384

noncomputable section

namespace Cert.Ece

open Cert.KernelIdeal Cert.KernelIdeal.Gen
open Idealize.ShloMosaic Idealize.ShloMosaic.TcCoe

/-- Point `t` accumulates counts into the block of its half, -/
theorem index0_3 : ∀ t : Fin grid0.N, win0_3.index t = ![t.val / 125, 0, 0] := by decide +kernel
/-- sums of confidences into the block of its half, -/
theorem index0_4 : ∀ t : Fin grid0.N, win0_4.index t = ![t.val / 125, 0, 0] := by decide +kernel
/-- and correct predictions into the block of its half. -/
theorem index0_5 : ∀ t : Fin grid0.N, win0_5.index t = ![t.val / 125, 0, 0] := by decide +kernel
/-- The combining pipeline's one point is given the counts whole, -/
theorem index1_0 : ∀ t : Fin grid1.N, win1_0.index t = ![0, 0, 0] := by decide +kernel
/-- the sums of confidences whole, -/
theorem index1_1 : ∀ t : Fin grid1.N, win1_1.index t = ![0, 0, 0] := by decide +kernel
/-- and the correct predictions whole. -/
theorem index1_2 : ∀ t : Fin grid1.N, win1_2.index t = ![0, 0, 0] := by decide +kernel

variable (m : (ℓ : Loc nD τ sig) → Buf (Elt Ideal) ℓ) (c : Dev nD)

/-- The sums over each half's rows, laid out as the pipeline's results are. -/
def halves (g : Fin 15 → Fin 1000000 → EReal) : Vec Ideal S2x1x15 .f32 := fun i => halfSum (g (i 2)) (i 0).val

/-- The accumulator that the last point of a half writes back is that half's part of the result. -/
theorem halves_block (step : ℕ → Vec Ideal S1x1x15 .f32 → Vec Ideal S1x1x15 .f32) (z : Vec Ideal S1x1x15 .f32)
    (g : Fin 15 → Fin 1000000 → EReal) (h : ∀ (j : Fin 15) (q : ℕ), q < 2 → fold125 step z (q * 125 + 124) (ix3 0 0 j) = halfSum (g j) q)
    (t : ℕ) (ht : t < 250) (hl : t % 125 = 124) (y : S1x1x15.Idx) (i : S2x1x15.Idx) (h0 : (i 0).val = t / 125) (h2 : (i 2).val = (y 2).val) :
    fold125 step z t y = halves g i := by
  obtain ⟨j, rfl⟩ : ∃ j : Fin 15, y = ix3 0 0 j := ⟨y 2, by
    funext a
    match a with
    | ⟨0, _⟩ => exact Subsingleton.elim (α := Fin 1) _ _
    | ⟨1, _⟩ => exact Subsingleton.elim (α := Fin 1) _ _
    | ⟨2, _⟩ => rfl⟩
  have e := h j (t / 125) (by omega)
  rw [show t / 125 * 125 + 124 = t by omega] at e
  unfold halves
  rw [e, h0, show i 2 = j from Fin.ext h2]

/-- Block `k` of blocks of one row is row `k`. -/
theorem one_row (k v : ℕ) (h : v < 1) : k * 1 + v = k := by omega

/-- The histogram pipeline leaves in its first result every bin's count over each half; -/
theorem W2_cnt : W2 m c main_v2_0 = halves (cntOf m c) := by
  refine (Pipeline.afterRegion_arr (dat0 (W1 m c) c) (W1 m c) winFacts0.arr_inj (3 : Fin 6)).trans ?_
  refine (dat0 (W1 m c) c).arrAt_eq_of_covers (3 : Fin 6) _ (by decide +kernel) fun t hf y => ?_
  exact halves_block (cntAt (W1 m c)) (k0_pay2 (F := Ideal)) _ (cnt_half m c) t.val t.isLt ((flush0_3 t).mp hf) y _
    ((win0_3.rect_emb_val t y 0).trans (by rw [index0_3 t]; exact one_row _ _ (y 0).isLt))
    ((win0_3.rect_emb_val t y 2).trans (by rw [index0_3 t]; exact Nat.zero_add _))

/-- and in the second the sums of confidences, -/
theorem W2_con : W2 m c main_v2_1 = halves (conOf m c) := by
  refine (Pipeline.afterRegion_arr (dat0 (W1 m c) c) (W1 m c) winFacts0.arr_inj (4 : Fin 6)).trans ?_
  refine (dat0 (W1 m c) c).arrAt_eq_of_covers (4 : Fin 6) _ (by decide +kernel) fun t hf y => ?_
  exact halves_block (confAt (W1 m c)) (k0_pay3 (F := Ideal)) _ (con_half m c) t.val t.isLt ((flush0_4 t).mp hf) y _
    ((win0_4.rect_emb_val t y 0).trans (by rw [index0_4 t]; exact one_row _ _ (y 0).isLt))
    ((win0_4.rect_emb_val t y 2).trans (by rw [index0_4 t]; exact Nat.zero_add _))

/-- and in the third the numbers of correct predictions. -/
theorem W2_acc : W2 m c main_v2_2 = halves (accOf m c) := by
  refine (Pipeline.afterRegion_arr (dat0 (W1 m c) c) (W1 m c) winFacts0.arr_inj (5 : Fin 6)).trans ?_
  refine (dat0 (W1 m c) c).arrAt_eq_of_covers (5 : Fin 6) _ (by decide +kernel) fun t hf y => ?_
  exact halves_block (accAt (W1 m c)) (k0_pay4 (F := Ideal)) _ (acc_half m c) t.val t.isLt ((flush0_5 t).mp hf) y _
    ((win0_5.rect_emb_val t y 0).trans (by rw [index0_5 t]; exact one_row _ _ (y 0).isLt))
    ((win0_5.rect_emb_val t y 2).trans (by rw [index0_5 t]; exact Nat.zero_add _))

/-- The combining pipeline reads each result whole. -/
theorem cntIn_eq (V : Valuation τ sig (Elt Ideal)) (t : Fin grid1.N) : cntIn V t = V main_v2_0 := by
  funext x
  unfold cntIn
  blk_ext [index1_0 t]
/-- It reads the sums of confidences whole, -/
theorem confIn_eq (V : Valuation τ sig (Elt Ideal)) (t : Fin grid1.N) : confIn V t = V main_v2_1 := by
  funext x
  unfold confIn
  blk_ext [index1_1 t]
/-- and the correct predictions whole. -/
theorem accIn_eq (V : Valuation τ sig (Elt Ideal)) (t : Fin grid1.N) : accIn V t = V main_v2_2 := by
  funext x
  unfold accIn
  blk_ext [index1_2 t]

/-- The combining pipeline leaves its payload of the three results. -/
theorem W3_out : W3 m c main_v3 = (k1_pay1 (W2 m c main_v2_0) (W2 m c main_v2_1) (W2 m c main_v2_2) : Vec Ideal S1x1 .f32) := by
  refine (Pipeline.afterRegion_arr (dat1 (W2 m c) c) (W2 m c) winFacts1.arr_inj (3 : Fin 4)).trans ?_
  refine (dat1 (W2 m c) c).arrAt_eq_of_after_last (3 : Fin 4) ⟨0, by decide⟩ (by decide +kernel) _ fun y => ?_
  show k1_pay1 (cntIn (W2 m c) _) (confIn (W2 m c) _) (accIn (W2 m c) _) y = _
  rw [cntIn_eq, confIn_eq, accIn_eq]
  rfl

/-- The kernel's result is that one number, laid out as a vector. -/
theorem W4_out : W4 m c main_v4 = (shapeCast S1 (W3 m c main_v3 : Vec Ideal S1x1 .f32) shapeCasts_S1x1_S1 : Vec Ideal S1 .f32) := by
  unfold W4 hostOps2
  after_reads_simp
  rfl

/-- The payload adds up, over the bins, what each adds to the error by its sums over both halves. -/
theorem combine_apply (A B C : Vec Ideal S2x1x15 .f32) :
    k1_pay1 A B C (ix2 0 0) = ∑ j : Fin 15, EceRef.binVal (∑ q : Fin 2, A (ix3 q 0 j)) (∑ q : Fin 2, B (ix3 q 0 j)) (∑ q : Fin 2, C (ix3 q 0 j)) := by
  pointwise [k1_pay1]
  rw [Fin.sum_univ_one]
  rfl

/-- A vector of one entry made from a one by one matrix holds the matrix's entry. -/
theorem one_apply (x : Vec Ideal S1x1 .f32) (h) (i : S1.Idx) : shapeCast S1 x h i = x (ix2 0 0) := by
  pointwise

/-- The kernel's result is the reference's, of the same arguments. -/
theorem kernel_value : W4 m c main_v4 = EceRef.refResult (F := Ideal) (logits m c) (labels m c) := by
  funext i
  refine (congrFun (W4_out m c) i).trans ((one_apply _ _ i).trans ((congrFun (W3_out m c) (ix2 0 0)).trans
    ((combine_apply _ _ _).trans (Eq.trans ?_ (EceRef.refResult_apply (logits m c) (labels m c) i).symm))))
  refine Finset.sum_congr rfl fun j _ => ?_
  rw [W2_cnt, W2_con, W2_acc]
  exact EceRef.binVal_congr (sum_halves (cntOf m c j)) (sum_halves (conOf m c j)) (sum_halves (accOf m c j))

end Cert.Ece
-- ==== Proof.lean ====
/-
  The proof of `Cert.Claim` (proofs.«01_k».proof.Defs). The kernel's run is in Proof/Run.lean and its result in
  Proof/KernelValue.lean; the reference's run is in Proof/RefValue.lean and its result in Proof/RefBins.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frame
public import proofs.«01_k».proof.Proof.KernelValue
public import proofs.«01_k».proof.Proof.RefValue

@[expose] public section

noncomputable section

namespace Cert.Proof

open Idealize.ShloMosaic Idealize.SL.Sem Cert.Kernel

/-- The kernel as printed ends with its arguments unchanged and every counter at zero. -/
theorem frame_printed : Cert.quiescent_Kernel := fun m g _ => (same_frame (F := Bits)).mpr (fun m g => Cert.Ece.frame_kernel m g) m g

/-- So does the reference. -/
theorem frame_reference : Cert.quiescent_ReferenceIdeal := fun m g _ =>
  θ_run_mono (Cert.EceRef.run_ref m g) fun _ h => ⟨fun c => (h.1 c).2, h.2⟩

/-- From equal arguments the kernel and the reference end with equal results. -/
theorem same_value : Cert.algebraic_KernelIdeal_ReferenceIdeal := fun m g m' g' _ hm =>
  ⟨fun c => Cert.EceRef.refResult (F := Ideal) (Cert.Ece.logits m c) (Cert.Ece.labels m c),
    θ_run_mono (Cert.Ece.run_main m g) fun _ h c =>
      ⟨(h.1 c Cert.KernelIdeal.main_v4 rfl).trans (Cert.Ece.kernel_value m c),
        (h.1 c Cert.KernelIdeal.main_arg0 rfl).trans (Cert.Ece.W4_kept m c _ (by decide) (by decide) (by decide) (by decide)),
        (h.1 c Cert.KernelIdeal.main_arg1 rfl).trans (Cert.Ece.W4_kept m c _ (by decide) (by decide) (by decide) (by decide))⟩,
    θ_run_mono (Cert.EceRef.run_ref m' g') fun _ h c =>
      ⟨(h.1 c).1.trans (congrArg₂ (Cert.EceRef.refResult (F := Ideal)) (hm c).1 (hm c).2), (h.1 c).2⟩⟩

theorem claim : Cert.Claim := ⟨Cert.Kernel.Gen.facts, Cert.KernelIdeal.Gen.facts, Cert.ReferenceIdeal.Gen.facts,
  frame_printed, fun m g _ => Cert.Ece.frame_kernel m g, frame_reference, trivial, same_value⟩

end Cert.Proof

end
